-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S128x2x1024 Cert.KernelIdeal.S128x1x1024
  ∧ IdealRules.bf16_pair.BufferStatement Cert.KernelIdeal.S2x512x2x256 Cert.KernelIdeal.S2x512x1x256
  ∧ IdealRules.bf16_pair.Statement Cert.KernelIdeal.S256x1024 Cert.KernelIdeal.S128x1024
  ∧ IdealRules.bf16_pair.Statement Cert.KernelIdeal.S128x2x1024 Cert.KernelIdeal.S128x1x1024
  ∧ IdealRules.bf16_pair.Statement Cert.KernelIdeal.S32x128 Cert.KernelIdeal.S16x128
  ∧ IdealRules.bf16_pair.Statement Cert.KernelIdeal.S1x16x2x128 Cert.KernelIdeal.S1x16x1x128
  ∧ IdealRules.bf16_pair.Statement Cert.KernelIdeal.S1x512x2x256 Cert.KernelIdeal.S1x512x1x256
  ∧ IdealRules.bf16_pair.Statement Cert.KernelIdeal.S1024x256 Cert.KernelIdeal.S512x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x13312 : Shape := ⟨2, ![1024, 13312]⟩
abbrev S4x256x2 : Shape := ⟨3, ![4, 256, 2]⟩
abbrev S4 : Shape := ⟨1, ![4]⟩
abbrev S26624 : Shape := ⟨1, ![26624]⟩
abbrev S256x1024 : Shape := ⟨2, ![256, 1024]⟩
abbrev S2x4x256 : Shape := ⟨3, ![2, 4, 256]⟩
abbrev S1x4 : Shape := ⟨2, ![1, 4]⟩
abbrev S208x128 : Shape := ⟨2, ![208, 128]⟩
abbrev S256x26624 : Shape := ⟨2, ![256, 26624]⟩
abbrev S1024x256 : Shape := ⟨2, ![1024, 256]⟩
abbrev S8x128 : Shape := ⟨2, ![8, 128]⟩
abbrev S4x2x2x32x128 : Shape := ⟨5, ![4, 2, 2, 32, 128]⟩
abbrev S4x2x8x32x128 : Shape := ⟨5, ![4, 2, 8, 32, 128]⟩
abbrev S4x32x128 : Shape := ⟨3, ![4, 32, 128]⟩
abbrev S128x1024 : Shape := ⟨2, ![128, 1024]⟩
abbrev S2x512x256 : Shape := ⟨3, ![2, 512, 256]⟩
abbrev S1x4x256 : Shape := ⟨3, ![1, 4, 256]⟩
abbrev S4x256 : Shape := ⟨2, ![4, 256]⟩
abbrev S1x256 : Shape := ⟨2, ![1, 256]⟩
abbrev S1x128 : Shape := ⟨2, ![1, 128]⟩
abbrev S128x128 : Shape := ⟨2, ![128, 128]⟩
abbrev S32x128 : Shape := ⟨2, ![32, 128]⟩
abbrev S1x1x1x32x128 : Shape := ⟨5, ![1, 1, 1, 32, 128]⟩
abbrev S1x1 : Shape := ⟨2, ![1, 1]⟩
abbrev S1x32x128 : Shape := ⟨3, ![1, 32, 128]⟩
abbrev S32x128x1 : Shape := ⟨3, ![32, 128, 1]⟩
abbrev S16x128 : Shape := ⟨2, ![16, 128]⟩
abbrev S1x16x128 : Shape := ⟨3, ![1, 16, 128]⟩
abbrev S8x128x1 : Shape := ⟨3, ![8, 128, 1]⟩
abbrev S256x128 : Shape := ⟨2, ![256, 128]⟩
abbrev S1x512x256 : Shape := ⟨3, ![1, 512, 256]⟩
abbrev S512x256 : Shape := ⟨2, ![512, 256]⟩
abbrev S256x256 : Shape := ⟨2, ![256, 256]⟩
abbrev S256x128x1 : Shape := ⟨3, ![256, 128, 1]⟩

abbrev nBuf : Space → Nat
  | .hbm => 10
  | .vmem => 17
  | .smem => 0
  | _ => 0

abbrev bufTy : (tb : Table) → Fin (tcTables nBuf tb) → BufTy
  | .hbm, ⟨0, _⟩ => ⟨S1x256x1024, .bf16⟩
  | .hbm, ⟨1, _⟩ => ⟨S1024x13312, .i8⟩
  | .hbm, ⟨2, _⟩ => ⟨S4x256x2, .i8⟩
  | .hbm, ⟨3, _⟩ => ⟨S4, .bf16⟩
  | .hbm, ⟨4, _⟩ => ⟨S26624, .f32⟩
  | .hbm, ⟨5, _⟩ => ⟨S256x1024, .bf16⟩
  | .hbm, ⟨6, _⟩ => ⟨S2x4x256, .i8⟩
  | .hbm, ⟨7, _⟩ => ⟨S1x4, .bf16⟩
  | .hbm, ⟨8, _⟩ => ⟨S208x128, .f32⟩
  | .hbm, ⟨9, _⟩ => ⟨S256x26624, .bf16⟩
  | .local _ .vmem, ⟨0, _⟩ => ⟨S256x1024, .bf16⟩
  | .local _ .vmem, ⟨1, _⟩ => ⟨S1024x256, .i8⟩
  | .local _ .vmem, ⟨2, _⟩ => ⟨S1024x256, .i8⟩
  | .local _ .vmem, ⟨3, _⟩ => ⟨S1024x256, .i8⟩
  | .local _ .vmem, ⟨4, _⟩ => ⟨S1024x256, .i8⟩
  | .local _ .vmem, ⟨5, _⟩ => ⟨S2x4x256, .i8⟩
  | .local _ .vmem, ⟨6, _⟩ => ⟨S1x4, .bf16⟩
  | .local _ .vmem, ⟨7, _⟩ => ⟨S8x128, .f32⟩
  | .local _ .vmem, ⟨8, _⟩ => ⟨S8x128, .f32⟩
  | .local _ .vmem, ⟨9, _⟩ => ⟨S256x1024, .bf16⟩
  | .local _ .vmem, ⟨10, _⟩ => ⟨S256x1024, .bf16⟩
  | .local _ .vmem, ⟨11, _⟩ => ⟨S4x2x2x32x128, .i8⟩
  | .local _ .vmem, ⟨12, _⟩ => ⟨S4x2x8x32x128, .i8⟩
  | .local _ .vmem, ⟨13, _⟩ => ⟨S4x32x128, .bf16⟩
  | .local _ .vmem, ⟨14, _⟩ => ⟨S128x1024, .i32⟩
  | .local _ .vmem, ⟨15, _⟩ => ⟨S2x512x256, .i32⟩
  | .local _ .vmem, ⟨16, _⟩ => ⟨S2x512x256, .i32⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [BitOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_443 : BitVec 32 := 0#32
  let c64_i32 : BitVec 32 := 64#32
  let v500 : BitVec 32 := Scalar.addi c0_i32_443 c64_i32
  let c1_i32 : BitVec 32 := 1#32
  ⟨c0_i32_443, v500, c1_i32⟩
def k0_off1 (k0_t1 : Fin k0_t1_loop.trips) : Fin 3 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v504 : Index := Scalar.indexCast v503
  let c0_447 : Index := 0#32
  let c0_448 : Index := 0#32
  ![v504.toNat, 0, 0]
def k0_mult1 (k0_t1 : Fin k0_t1_loop.trips) : BitVec 32 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32 : BitVec 32 := 2#32
  let v507 : BitVec 32 := Scalar.divsi v502 c2_i32
  let c32_i32 : BitVec 32 := 32#32
  let v508 : BitVec 32 := Scalar.muli v507 c32_i32
  v508
def k0_mult2 (k0_t1 : Fin k0_t1_loop.trips) : BitVec 32 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_449 : BitVec 32 := 2#32
  let v510 : BitVec 32 := Scalar.divsi v502 c2_i32_449
  let c16_i32_450 : BitVec 32 := 16#32
  let v511 : BitVec 32 := Scalar.muli v510 c16_i32_450
  v511
def k0_mult3 (k0_t1 : Fin k0_t1_loop.trips) : BitVec 32 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_451 : BitVec 32 := 2#32
  let v513 : BitVec 32 := Scalar.remsi v502 c2_i32_451
  let c128_i32 : BitVec 32 := 128#32
  let v514 : BitVec 32 := Scalar.muli v513 c128_i32
  v514
def k0_off2 (k0_t1 : Fin k0_t1_loop.trips) : Fin 2 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32 : BitVec 32 := 2#32
  let v507 : BitVec 32 := Scalar.divsi v502 c2_i32
  let c32_i32 : BitVec 32 := 32#32
  let v508 : BitVec 32 := Scalar.muli v507 c32_i32
  let v509 : BitVec 32 := v508
  let v516 : Index := Scalar.indexCast v509
  let c2_i32_451 : BitVec 32 := 2#32
  let v513 : BitVec 32 := Scalar.remsi v502 c2_i32_451
  let c128_i32 : BitVec 32 := 128#32
  let v514 : BitVec 32 := Scalar.muli v513 c128_i32
  let v515 : BitVec 32 := v514
  let v517 : Index := Scalar.indexCast v515
  ![v516.toNat, v517.toNat]
def k0_cond2 (k0_t1 : Fin k0_t1_loop.trips) : BitVec 1 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c7_i32 : BitVec 32 := 7#32
  let v519 : BitVec 32 := Scalar.muli v502 c7_i32
  let c16_i32_452 : BitVec 32 := 16#32
  let v520 : BitVec 32 := Scalar.remsi v519 c16_i32_452
  let c7_i32_453 : BitVec 32 := 7#32
  let v521 : BitVec 1 := Scalar.cmpi .slt v520 c7_i32_453
  let v522 : BitVec 32 := Scalar.extui v521
  let c0_i32_454 : BitVec 32 := 0#32
  let v523 : BitVec 1 := Scalar.cmpi .ne v522 c0_i32_454
  v523

def k0_off3 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v547 : Index := Scalar.indexCast v503
  let c0_457 : Index := 0#32
  let c0_458 : Index := 0#32
  let c0_459 : Index := 0#32
  let c0_460 : Index := 0#32
  ![v547.toNat, 0, 0, 0, 0]
def k0_off4 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v556 : Index := Scalar.indexCast v503
  let c0_461 : Index := 0#32
  let c1_462 : Index := 1#32
  let c0_463 : Index := 0#32
  let c0_464 : Index := 0#32
  ![v556.toNat, 0, 1, 0, 0]
def k0_off5 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v566 : Index := Scalar.indexCast v503
  let c1_465 : Index := 1#32
  let c0_466 : Index := 0#32
  let c0_467 : Index := 0#32
  let c0_468 : Index := 0#32
  ![v566.toNat, 1, 0, 0, 0]
def k0_off6 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v575 : Index := Scalar.indexCast v503
  let c1_469 : Index := 1#32
  let c1_470 : Index := 1#32
  let c0_471 : Index := 0#32
  let c0_472 : Index := 0#32
  ![v575.toNat, 1, 1, 0, 0]
def k0_off7 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v555 : Index := Scalar.indexCast v503
  let c0_459 : Index := 0#32
  let c0_460 : Index := 0#32
  let c0_461 : Index := 0#32
  let c0_462 : Index := 0#32
  ![v555.toNat, 0, 0, 0, 0]
def k0_off8 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v562 : Index := Scalar.indexCast v503
  let c0_463 : Index := 0#32
  let c1_464 : Index := 1#32
  let c0_465 : Index := 0#32
  let c0_466 : Index := 0#32
  ![v562.toNat, 0, 1, 0, 0]
def k0_off9 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v569 : Index := Scalar.indexCast v503
  let c0_467 : Index := 0#32
  let c2_468 : Index := 2#32
  let c0_469 : Index := 0#32
  let c0_470 : Index := 0#32
  ![v569.toNat, 0, 2, 0, 0]
def k0_off10 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v576 : Index := Scalar.indexCast v503
  let c0_471 : Index := 0#32
  let c3_472 : Index := 3#32
  let c0_473 : Index := 0#32
  let c0_474 : Index := 0#32
  ![v576.toNat, 0, 3, 0, 0]
def k0_off11 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v583 : Index := Scalar.indexCast v503
  let c0_475 : Index := 0#32
  let c4_476 : Index := 4#32
  let c0_477 : Index := 0#32
  let c0_478 : Index := 0#32
  ![v583.toNat, 0, 4, 0, 0]
def k0_off12 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v590 : Index := Scalar.indexCast v503
  let c0_479 : Index := 0#32
  let c5_480 : Index := 5#32
  let c0_481 : Index := 0#32
  let c0_482 : Index := 0#32
  ![v590.toNat, 0, 5, 0, 0]
def k0_off13 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v597 : Index := Scalar.indexCast v503
  let c0_483 : Index := 0#32
  let c6_484 : Index := 6#32
  let c0_485 : Index := 0#32
  let c0_486 : Index := 0#32
  ![v597.toNat, 0, 6, 0, 0]
def k0_off14 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v604 : Index := Scalar.indexCast v503
  let c0_487 : Index := 0#32
  let c7_488 : Index := 7#32
  let c0_489 : Index := 0#32
  let c0_490 : Index := 0#32
  ![v604.toNat, 0, 7, 0, 0]
def k0_off15 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v618 : Index := Scalar.indexCast v503
  let c1_491 : Index := 1#32
  let c0_492 : Index := 0#32
  let c0_493 : Index := 0#32
  let c0_494 : Index := 0#32
  ![v618.toNat, 1, 0, 0, 0]
def k0_off16 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v625 : Index := Scalar.indexCast v503
  let c1_495 : Index := 1#32
  let c1_496 : Index := 1#32
  let c0_497 : Index := 0#32
  let c0_498 : Index := 0#32
  ![v625.toNat, 1, 1, 0, 0]
def k0_off17 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v632 : Index := Scalar.indexCast v503
  let c1_499 : Index := 1#32
  let c2_500 : Index := 2#32
  let c0_501 : Index := 0#32
  let c0_502 : Index := 0#32
  ![v632.toNat, 1, 2, 0, 0]
def k0_off18 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v639 : Index := Scalar.indexCast v503
  let c1_503 : Index := 1#32
  let c3_504 : Index := 3#32
  let c0_505 : Index := 0#32
  let c0_506 : Index := 0#32
  ![v639.toNat, 1, 3, 0, 0]
def k0_off19 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v646 : Index := Scalar.indexCast v503
  let c1_507 : Index := 1#32
  let c4_508 : Index := 4#32
  let c0_509 : Index := 0#32
  let c0_510 : Index := 0#32
  ![v646.toNat, 1, 4, 0, 0]
def k0_off20 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v653 : Index := Scalar.indexCast v503
  let c1_511 : Index := 1#32
  let c5_512 : Index := 5#32
  let c0_513 : Index := 0#32
  let c0_514 : Index := 0#32
  ![v653.toNat, 1, 5, 0, 0]
def k0_off21 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v660 : Index := Scalar.indexCast v503
  let c1_515 : Index := 1#32
  let c6_516 : Index := 6#32
  let c0_517 : Index := 0#32
  let c0_518 : Index := 0#32
  ![v660.toNat, 1, 6, 0, 0]
def k0_off22 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v667 : Index := Scalar.indexCast v503
  let c1_519 : Index := 1#32
  let c7_520 : Index := 7#32
  let c0_521 : Index := 0#32
  let c0_522 : Index := 0#32
  ![v667.toNat, 1, 7, 0, 0]
def k0_off23 (k0_t1 : Fin k0_t1_loop.trips) : Fin 3 → Nat :=
  let c0_455 : Index := 0#32
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_449 : BitVec 32 := 2#32
  let v510 : BitVec 32 := Scalar.divsi v502 c2_i32_449
  let c16_i32_450 : BitVec 32 := 16#32
  let v511 : BitVec 32 := Scalar.muli v510 c16_i32_450
  let v512 : BitVec 32 := v511
  let v528 : Index := Scalar.indexCast v512
  let c2_i32_451 : BitVec 32 := 2#32
  let v513 : BitVec 32 := Scalar.remsi v502 c2_i32_451
  let c128_i32 : BitVec 32 := 128#32
  let v514 : BitVec 32 := Scalar.muli v513 c128_i32
  let v515 : BitVec 32 := v514
  let v529 : Index := Scalar.indexCast v515
  ![0, v528.toNat, v529.toNat]
def k0_off24 (k0_t1 : Fin k0_t1_loop.trips) : Fin 3 → Nat :=
  let c1_456 : Index := 1#32
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_449 : BitVec 32 := 2#32
  let v510 : BitVec 32 := Scalar.divsi v502 c2_i32_449
  let c16_i32_450 : BitVec 32 := 16#32
  let v511 : BitVec 32 := Scalar.muli v510 c16_i32_450
  let v512 : BitVec 32 := v511
  let v536 : Index := Scalar.indexCast v512
  let c2_i32_451 : BitVec 32 := 2#32
  let v513 : BitVec 32 := Scalar.remsi v502 c2_i32_451
  let c128_i32 : BitVec 32 := 128#32
  let v514 : BitVec 32 := Scalar.muli v513 c128_i32
  let v515 : BitVec 32 := v514
  let v537 : Index := Scalar.indexCast v515
  ![1, v536.toNat, v537.toNat]
def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

@[reducible] def k0_t2_loop : Scf.Loop 32 :=
  let c0_i32_3 : BitVec 32 := 0#32
  let c64_i32 : BitVec 32 := 64#32
  let v6 : BitVec 32 := Scalar.addi c0_i32_3 c64_i32
  let c1_i32 : BitVec 32 := 1#32
  ⟨c0_i32_3, v6, c1_i32⟩
def k0_off25 (k0_t2 : Fin k0_t2_loop.trips) : Fin 3 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v321 : Index := Scalar.indexCast v320
  let c0_85 : Index := 0#32
  let c0_86 : Index := 0#32
  ![v321.toNat, 0, 0]
def k0_mult4 (k0_t2 : Fin k0_t2_loop.trips) : BitVec 32 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  v325
def k0_mult5 (k0_t2 : Fin k0_t2_loop.trips) : BitVec 32 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  v328
def k0_mult6 (k0_t2 : Fin k0_t2_loop.trips) : BitVec 32 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_90 : BitVec 32 := 2#32
  let v330 : BitVec 32 := Scalar.remsi v319 c2_i32_90
  let c128_i32 : BitVec 32 := 128#32
  let v331 : BitVec 32 := Scalar.muli v330 c128_i32
  v331
def k0_off26 (k0_t2 : Fin k0_t2_loop.trips) : Fin 2 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  let v326 : BitVec 32 := v325
  let v333 : Index := Scalar.indexCast v326
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v334 : Index := Scalar.indexCast v332
  ![v333.toNat, v334.toNat]
def k0_cond4 (k0_t2 : Fin k0_t2_loop.trips) : BitVec 1 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c7_i32 : BitVec 32 := 7#32
  let v336 : BitVec 32 := Scalar.muli v319 c7_i32
  let c16_i32_91 : BitVec 32 := 16#32
  let v337 : BitVec 32 := Scalar.remsi v336 c16_i32_91
  let c7_i32_92 : BitVec 32 := 7#32
  let v338 : BitVec 1 := Scalar.cmpi .slt v337 c7_i32_92
  let v339 : BitVec 32 := Scalar.extui v338
  let c0_i32_93 : BitVec 32 := 0#32
  let v340 : BitVec 1 := Scalar.cmpi .ne v339 c0_i32_93
  v340

def k0_off27 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v364 : Index := Scalar.indexCast v320
  let c0_96 : Index := 0#32
  let c0_97 : Index := 0#32
  let c0_98 : Index := 0#32
  let c0_99 : Index := 0#32
  ![v364.toNat, 0, 0, 0, 0]
def k0_off28 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v373 : Index := Scalar.indexCast v320
  let c0_100 : Index := 0#32
  let c1_101 : Index := 1#32
  let c0_102 : Index := 0#32
  let c0_103 : Index := 0#32
  ![v373.toNat, 0, 1, 0, 0]
def k0_off29 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v383 : Index := Scalar.indexCast v320
  let c1_104 : Index := 1#32
  let c0_105 : Index := 0#32
  let c0_106 : Index := 0#32
  let c0_107 : Index := 0#32
  ![v383.toNat, 1, 0, 0, 0]
def k0_off30 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v392 : Index := Scalar.indexCast v320
  let c1_108 : Index := 1#32
  let c1_109 : Index := 1#32
  let c0_110 : Index := 0#32
  let c0_111 : Index := 0#32
  ![v392.toNat, 1, 1, 0, 0]
def k0_off31 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v372 : Index := Scalar.indexCast v320
  let c0_98 : Index := 0#32
  let c0_99 : Index := 0#32
  let c0_100 : Index := 0#32
  let c0_101 : Index := 0#32
  ![v372.toNat, 0, 0, 0, 0]
def k0_off32 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v379 : Index := Scalar.indexCast v320
  let c0_102 : Index := 0#32
  let c1_103 : Index := 1#32
  let c0_104 : Index := 0#32
  let c0_105 : Index := 0#32
  ![v379.toNat, 0, 1, 0, 0]
def k0_off33 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v386 : Index := Scalar.indexCast v320
  let c0_106 : Index := 0#32
  let c2 : Index := 2#32
  let c0_107 : Index := 0#32
  let c0_108 : Index := 0#32
  ![v386.toNat, 0, 2, 0, 0]
def k0_off34 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v393 : Index := Scalar.indexCast v320
  let c0_109 : Index := 0#32
  let c3 : Index := 3#32
  let c0_110 : Index := 0#32
  let c0_111 : Index := 0#32
  ![v393.toNat, 0, 3, 0, 0]
def k0_off35 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v400 : Index := Scalar.indexCast v320
  let c0_112 : Index := 0#32
  let c4 : Index := 4#32
  let c0_113 : Index := 0#32
  let c0_114 : Index := 0#32
  ![v400.toNat, 0, 4, 0, 0]
def k0_off36 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v407 : Index := Scalar.indexCast v320
  let c0_115 : Index := 0#32
  let c5 : Index := 5#32
  let c0_116 : Index := 0#32
  let c0_117 : Index := 0#32
  ![v407.toNat, 0, 5, 0, 0]
def k0_off37 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v414 : Index := Scalar.indexCast v320
  let c0_118 : Index := 0#32
  let c6 : Index := 6#32
  let c0_119 : Index := 0#32
  let c0_120 : Index := 0#32
  ![v414.toNat, 0, 6, 0, 0]
def k0_off38 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v421 : Index := Scalar.indexCast v320
  let c0_121 : Index := 0#32
  let c7 : Index := 7#32
  let c0_122 : Index := 0#32
  let c0_123 : Index := 0#32
  ![v421.toNat, 0, 7, 0, 0]
def k0_off39 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v435 : Index := Scalar.indexCast v320
  let c1_124 : Index := 1#32
  let c0_125 : Index := 0#32
  let c0_126 : Index := 0#32
  let c0_127 : Index := 0#32
  ![v435.toNat, 1, 0, 0, 0]
def k0_off40 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v442 : Index := Scalar.indexCast v320
  let c1_128 : Index := 1#32
  let c1_129 : Index := 1#32
  let c0_130 : Index := 0#32
  let c0_131 : Index := 0#32
  ![v442.toNat, 1, 1, 0, 0]
def k0_off41 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v449 : Index := Scalar.indexCast v320
  let c1_132 : Index := 1#32
  let c2_133 : Index := 2#32
  let c0_134 : Index := 0#32
  let c0_135 : Index := 0#32
  ![v449.toNat, 1, 2, 0, 0]
def k0_off42 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v456 : Index := Scalar.indexCast v320
  let c1_136 : Index := 1#32
  let c3_137 : Index := 3#32
  let c0_138 : Index := 0#32
  let c0_139 : Index := 0#32
  ![v456.toNat, 1, 3, 0, 0]
def k0_off43 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v463 : Index := Scalar.indexCast v320
  let c1_140 : Index := 1#32
  let c4_141 : Index := 4#32
  let c0_142 : Index := 0#32
  let c0_143 : Index := 0#32
  ![v463.toNat, 1, 4, 0, 0]
def k0_off44 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v470 : Index := Scalar.indexCast v320
  let c1_144 : Index := 1#32
  let c5_145 : Index := 5#32
  let c0_146 : Index := 0#32
  let c0_147 : Index := 0#32
  ![v470.toNat, 1, 5, 0, 0]
def k0_off45 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v477 : Index := Scalar.indexCast v320
  let c1_148 : Index := 1#32
  let c6_149 : Index := 6#32
  let c0_150 : Index := 0#32
  let c0_151 : Index := 0#32
  ![v477.toNat, 1, 6, 0, 0]
def k0_off46 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v484 : Index := Scalar.indexCast v320
  let c1_152 : Index := 1#32
  let c7_153 : Index := 7#32
  let c0_154 : Index := 0#32
  let c0_155 : Index := 0#32
  ![v484.toNat, 1, 7, 0, 0]
def k0_off47 (k0_t2 : Fin k0_t2_loop.trips) : Fin 3 → Nat :=
  let c0_94 : Index := 0#32
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v345 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v346 : Index := Scalar.indexCast v332
  ![0, v345.toNat, v346.toNat]
def k0_off48 (k0_t2 : Fin k0_t2_loop.trips) : Fin 3 → Nat :=
  let c1_95 : Index := 1#32
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v353 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v354 : Index := Scalar.indexCast v332
  ![1, v353.toNat, v354.toNat]
@[reducible] def k0_t3_loop : Scf.Loop 32 :=
  let c0_i32_40 : BitVec 32 := 0#32
  let c64_i32_41 : BitVec 32 := 64#32
  let v162 : BitVec 32 := Scalar.addi c0_i32_40 c64_i32_41
  let c1_i32_42 : BitVec 32 := 1#32
  ⟨c0_i32_40, v162, c1_i32_42⟩
def k0_off49 (k0_t3 : Fin k0_t3_loop.trips) : Fin 3 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v321 : Index := Scalar.indexCast v320
  let c0_85 : Index := 0#32
  let c0_86 : Index := 0#32
  ![v321.toNat, 0, 0]
def k0_mult7 (k0_t3 : Fin k0_t3_loop.trips) : BitVec 32 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  v325
def k0_mult8 (k0_t3 : Fin k0_t3_loop.trips) : BitVec 32 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  v328
def k0_mult9 (k0_t3 : Fin k0_t3_loop.trips) : BitVec 32 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_90 : BitVec 32 := 2#32
  let v330 : BitVec 32 := Scalar.remsi v319 c2_i32_90
  let c128_i32 : BitVec 32 := 128#32
  let v331 : BitVec 32 := Scalar.muli v330 c128_i32
  v331
def k0_off50 (k0_t3 : Fin k0_t3_loop.trips) : Fin 2 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  let v326 : BitVec 32 := v325
  let v333 : Index := Scalar.indexCast v326
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v334 : Index := Scalar.indexCast v332
  ![v333.toNat, v334.toNat]
def k0_cond5 (k0_t3 : Fin k0_t3_loop.trips) : BitVec 1 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c7_i32 : BitVec 32 := 7#32
  let v336 : BitVec 32 := Scalar.muli v319 c7_i32
  let c16_i32_91 : BitVec 32 := 16#32
  let v337 : BitVec 32 := Scalar.remsi v336 c16_i32_91
  let c7_i32_92 : BitVec 32 := 7#32
  let v338 : BitVec 1 := Scalar.cmpi .slt v337 c7_i32_92
  let v339 : BitVec 32 := Scalar.extui v338
  let c0_i32_93 : BitVec 32 := 0#32
  let v340 : BitVec 1 := Scalar.cmpi .ne v339 c0_i32_93
  v340

def k0_off51 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v364 : Index := Scalar.indexCast v320
  let c0_96 : Index := 0#32
  let c0_97 : Index := 0#32
  let c0_98 : Index := 0#32
  let c0_99 : Index := 0#32
  ![v364.toNat, 0, 0, 0, 0]
def k0_off52 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v373 : Index := Scalar.indexCast v320
  let c0_100 : Index := 0#32
  let c1_101 : Index := 1#32
  let c0_102 : Index := 0#32
  let c0_103 : Index := 0#32
  ![v373.toNat, 0, 1, 0, 0]
def k0_off53 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v383 : Index := Scalar.indexCast v320
  let c1_104 : Index := 1#32
  let c0_105 : Index := 0#32
  let c0_106 : Index := 0#32
  let c0_107 : Index := 0#32
  ![v383.toNat, 1, 0, 0, 0]
def k0_off54 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v392 : Index := Scalar.indexCast v320
  let c1_108 : Index := 1#32
  let c1_109 : Index := 1#32
  let c0_110 : Index := 0#32
  let c0_111 : Index := 0#32
  ![v392.toNat, 1, 1, 0, 0]
def k0_off55 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v372 : Index := Scalar.indexCast v320
  let c0_98 : Index := 0#32
  let c0_99 : Index := 0#32
  let c0_100 : Index := 0#32
  let c0_101 : Index := 0#32
  ![v372.toNat, 0, 0, 0, 0]
def k0_off56 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v379 : Index := Scalar.indexCast v320
  let c0_102 : Index := 0#32
  let c1_103 : Index := 1#32
  let c0_104 : Index := 0#32
  let c0_105 : Index := 0#32
  ![v379.toNat, 0, 1, 0, 0]
def k0_off57 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v386 : Index := Scalar.indexCast v320
  let c0_106 : Index := 0#32
  let c2 : Index := 2#32
  let c0_107 : Index := 0#32
  let c0_108 : Index := 0#32
  ![v386.toNat, 0, 2, 0, 0]
def k0_off58 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v393 : Index := Scalar.indexCast v320
  let c0_109 : Index := 0#32
  let c3 : Index := 3#32
  let c0_110 : Index := 0#32
  let c0_111 : Index := 0#32
  ![v393.toNat, 0, 3, 0, 0]
def k0_off59 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v400 : Index := Scalar.indexCast v320
  let c0_112 : Index := 0#32
  let c4 : Index := 4#32
  let c0_113 : Index := 0#32
  let c0_114 : Index := 0#32
  ![v400.toNat, 0, 4, 0, 0]
def k0_off60 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v407 : Index := Scalar.indexCast v320
  let c0_115 : Index := 0#32
  let c5 : Index := 5#32
  let c0_116 : Index := 0#32
  let c0_117 : Index := 0#32
  ![v407.toNat, 0, 5, 0, 0]
def k0_off61 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v414 : Index := Scalar.indexCast v320
  let c0_118 : Index := 0#32
  let c6 : Index := 6#32
  let c0_119 : Index := 0#32
  let c0_120 : Index := 0#32
  ![v414.toNat, 0, 6, 0, 0]
def k0_off62 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v421 : Index := Scalar.indexCast v320
  let c0_121 : Index := 0#32
  let c7 : Index := 7#32
  let c0_122 : Index := 0#32
  let c0_123 : Index := 0#32
  ![v421.toNat, 0, 7, 0, 0]
def k0_off63 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v435 : Index := Scalar.indexCast v320
  let c1_124 : Index := 1#32
  let c0_125 : Index := 0#32
  let c0_126 : Index := 0#32
  let c0_127 : Index := 0#32
  ![v435.toNat, 1, 0, 0, 0]
def k0_off64 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v442 : Index := Scalar.indexCast v320
  let c1_128 : Index := 1#32
  let c1_129 : Index := 1#32
  let c0_130 : Index := 0#32
  let c0_131 : Index := 0#32
  ![v442.toNat, 1, 1, 0, 0]
def k0_off65 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v449 : Index := Scalar.indexCast v320
  let c1_132 : Index := 1#32
  let c2_133 : Index := 2#32
  let c0_134 : Index := 0#32
  let c0_135 : Index := 0#32
  ![v449.toNat, 1, 2, 0, 0]
def k0_off66 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v456 : Index := Scalar.indexCast v320
  let c1_136 : Index := 1#32
  let c3_137 : Index := 3#32
  let c0_138 : Index := 0#32
  let c0_139 : Index := 0#32
  ![v456.toNat, 1, 3, 0, 0]
def k0_off67 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v463 : Index := Scalar.indexCast v320
  let c1_140 : Index := 1#32
  let c4_141 : Index := 4#32
  let c0_142 : Index := 0#32
  let c0_143 : Index := 0#32
  ![v463.toNat, 1, 4, 0, 0]
def k0_off68 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v470 : Index := Scalar.indexCast v320
  let c1_144 : Index := 1#32
  let c5_145 : Index := 5#32
  let c0_146 : Index := 0#32
  let c0_147 : Index := 0#32
  ![v470.toNat, 1, 5, 0, 0]
def k0_off69 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v477 : Index := Scalar.indexCast v320
  let c1_148 : Index := 1#32
  let c6_149 : Index := 6#32
  let c0_150 : Index := 0#32
  let c0_151 : Index := 0#32
  ![v477.toNat, 1, 6, 0, 0]
def k0_off70 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v484 : Index := Scalar.indexCast v320
  let c1_152 : Index := 1#32
  let c7_153 : Index := 7#32
  let c0_154 : Index := 0#32
  let c0_155 : Index := 0#32
  ![v484.toNat, 1, 7, 0, 0]
def k0_off71 (k0_t3 : Fin k0_t3_loop.trips) : Fin 3 → Nat :=
  let c0_94 : Index := 0#32
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v345 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v346 : Index := Scalar.indexCast v332
  ![0, v345.toNat, v346.toNat]
def k0_off72 (k0_t3 : Fin k0_t3_loop.trips) : Fin 3 → Nat :=
  let c1_95 : Index := 1#32
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v353 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v354 : Index := Scalar.indexCast v332
  ![1, v353.toNat, v354.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c51_i32 : BitVec 32 := 51#32
  let v1 : BitVec 32 := Scalar.minsi v0 c51_i32
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
abbrev S1x256x1024 : Shape := ⟨3, ![1, 256, 1024]⟩
abbrev S1024x13312 : Shape := ⟨2, ![1024, 13312]⟩
abbrev S4x256x2 : Shape := ⟨3, ![4, 256, 2]⟩
abbrev S4 : Shape := ⟨1, ![4]⟩
abbrev S26624 : Shape := ⟨1, ![26624]⟩
abbrev S256x1024 : Shape := ⟨2, ![256, 1024]⟩
abbrev S2x4x256 : Shape := ⟨3, ![2, 4, 256]⟩
abbrev S1x4 : Shape := ⟨2, ![1, 4]⟩
abbrev S208x128 : Shape := ⟨2, ![208, 128]⟩
abbrev S256x26624 : Shape := ⟨2, ![256, 26624]⟩
abbrev S1024x256 : Shape := ⟨2, ![1024, 256]⟩
abbrev S8x128 : Shape := ⟨2, ![8, 128]⟩
abbrev S4x2x2x32x128 : Shape := ⟨5, ![4, 2, 2, 32, 128]⟩
abbrev S4x2x8x32x128 : Shape := ⟨5, ![4, 2, 8, 32, 128]⟩
abbrev S4x32x128 : Shape := ⟨3, ![4, 32, 128]⟩
abbrev S128x1024 : Shape := ⟨2, ![128, 1024]⟩
abbrev S128x2x1024 : Shape := ⟨3, ![128, 2, 1024]⟩
abbrev S128x1x1024 : Shape := ⟨3, ![128, 1, 1024]⟩
abbrev S2x512x256 : Shape := ⟨3, ![2, 512, 256]⟩
abbrev S2x512x2x256 : Shape := ⟨4, ![2, 512, 2, 256]⟩
abbrev S2x512x1x256 : Shape := ⟨4, ![2, 512, 1, 256]⟩
abbrev S1x4x256 : Shape := ⟨3, ![1, 4, 256]⟩
abbrev S4x256 : Shape := ⟨2, ![4, 256]⟩
abbrev S1x256 : Shape := ⟨2, ![1, 256]⟩
abbrev S1x128 : Shape := ⟨2, ![1, 128]⟩
abbrev S128x128 : Shape := ⟨2, ![128, 128]⟩
abbrev S32x128 : Shape := ⟨2, ![32, 128]⟩
abbrev S1x1x1x32x128 : Shape := ⟨5, ![1, 1, 1, 32, 128]⟩
abbrev S1x1 : Shape := ⟨2, ![1, 1]⟩
abbrev S1x32x128 : Shape := ⟨3, ![1, 32, 128]⟩
abbrev S32x128x1 : Shape := ⟨3, ![32, 128, 1]⟩
abbrev S16x128 : Shape := ⟨2, ![16, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S8x128x1 : Shape := ⟨3, ![8, 128, 1]⟩
abbrev S256x128 : Shape := ⟨2, ![256, 128]⟩
abbrev S1x512x256 : Shape := ⟨3, ![1, 512, 256]⟩
abbrev S1x512x2x256 : Shape := ⟨4, ![1, 512, 2, 256]⟩
abbrev S1x512x1x256 : Shape := ⟨4, ![1, 512, 1, 256]⟩
abbrev S512x256 : Shape := ⟨2, ![512, 256]⟩
abbrev S256x256 : Shape := ⟨2, ![256, 256]⟩
abbrev S256x128x1 : Shape := ⟨3, ![256, 128, 1]⟩

abbrev nBuf : Space → Nat
  | .hbm => 10
  | .vmem => 17
  | .smem => 0
  | _ => 0

abbrev bufTy : (tb : Table) → Fin (tcTables nBuf tb) → BufTy
  | .hbm, ⟨0, _⟩ => ⟨S1x256x1024, .bf16⟩
  | .hbm, ⟨1, _⟩ => ⟨S1024x13312, .i8⟩
  | .hbm, ⟨2, _⟩ => ⟨S4x256x2, .i8⟩
  | .hbm, ⟨3, _⟩ => ⟨S4, .bf16⟩
  | .hbm, ⟨4, _⟩ => ⟨S26624, .f32⟩
  | .hbm, ⟨5, _⟩ => ⟨S256x1024, .bf16⟩
  | .hbm, ⟨6, _⟩ => ⟨S2x4x256, .i8⟩
  | .hbm, ⟨7, _⟩ => ⟨S1x4, .bf16⟩
  | .hbm, ⟨8, _⟩ => ⟨S208x128, .f32⟩
  | .hbm, ⟨9, _⟩ => ⟨S256x26624, .bf16⟩
  | .local _ .vmem, ⟨0, _⟩ => ⟨S256x1024, .bf16⟩
  | .local _ .vmem, ⟨1, _⟩ => ⟨S1024x256, .i8⟩
  | .local _ .vmem, ⟨2, _⟩ => ⟨S1024x256, .i8⟩
  | .local _ .vmem, ⟨3, _⟩ => ⟨S1024x256, .i8⟩
  | .local _ .vmem, ⟨4, _⟩ => ⟨S1024x256, .i8⟩
  | .local _ .vmem, ⟨5, _⟩ => ⟨S2x4x256, .i8⟩
  | .local _ .vmem, ⟨6, _⟩ => ⟨S1x4, .bf16⟩
  | .local _ .vmem, ⟨7, _⟩ => ⟨S8x128, .f32⟩
  | .local _ .vmem, ⟨8, _⟩ => ⟨S8x128, .f32⟩
  | .local _ .vmem, ⟨9, _⟩ => ⟨S256x1024, .bf16⟩
  | .local _ .vmem, ⟨10, _⟩ => ⟨S256x1024, .bf16⟩
  | .local _ .vmem, ⟨11, _⟩ => ⟨S4x2x2x32x128, .i8⟩
  | .local _ .vmem, ⟨12, _⟩ => ⟨S4x2x8x32x128, .i8⟩
  | .local _ .vmem, ⟨13, _⟩ => ⟨S4x32x128, .bf16⟩
  | .local _ .vmem, ⟨14, _⟩ => ⟨S128x2x1024, .bf16⟩
  | .local _ .vmem, ⟨15, _⟩ => ⟨S2x512x2x256, .bf16⟩
  | .local _ .vmem, ⟨16, _⟩ => ⟨S2x512x2x256, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_443 : BitVec 32 := 0#32
  let c64_i32 : BitVec 32 := 64#32
  let v500 : BitVec 32 := Scalar.addi c0_i32_443 c64_i32
  let c1_i32 : BitVec 32 := 1#32
  ⟨c0_i32_443, v500, c1_i32⟩
def k0_off1 (k0_t1 : Fin k0_t1_loop.trips) : Fin 3 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v504 : Index := Scalar.indexCast v503
  let c0_447 : Index := 0#32
  let c0_448 : Index := 0#32
  ![v504.toNat, 0, 0]
def k0_mult1 (k0_t1 : Fin k0_t1_loop.trips) : BitVec 32 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32 : BitVec 32 := 2#32
  let v507 : BitVec 32 := Scalar.divsi v502 c2_i32
  let c32_i32 : BitVec 32 := 32#32
  let v508 : BitVec 32 := Scalar.muli v507 c32_i32
  v508
def k0_mult2 (k0_t1 : Fin k0_t1_loop.trips) : BitVec 32 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_449 : BitVec 32 := 2#32
  let v510 : BitVec 32 := Scalar.divsi v502 c2_i32_449
  let c16_i32_450 : BitVec 32 := 16#32
  let v511 : BitVec 32 := Scalar.muli v510 c16_i32_450
  v511
def k0_mult3 (k0_t1 : Fin k0_t1_loop.trips) : BitVec 32 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_451 : BitVec 32 := 2#32
  let v513 : BitVec 32 := Scalar.remsi v502 c2_i32_451
  let c128_i32 : BitVec 32 := 128#32
  let v514 : BitVec 32 := Scalar.muli v513 c128_i32
  v514
def k0_off2 (k0_t1 : Fin k0_t1_loop.trips) : Fin 2 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32 : BitVec 32 := 2#32
  let v507 : BitVec 32 := Scalar.divsi v502 c2_i32
  let c32_i32 : BitVec 32 := 32#32
  let v508 : BitVec 32 := Scalar.muli v507 c32_i32
  let v509 : BitVec 32 := v508
  let v516 : Index := Scalar.indexCast v509
  let c2_i32_451 : BitVec 32 := 2#32
  let v513 : BitVec 32 := Scalar.remsi v502 c2_i32_451
  let c128_i32 : BitVec 32 := 128#32
  let v514 : BitVec 32 := Scalar.muli v513 c128_i32
  let v515 : BitVec 32 := v514
  let v517 : Index := Scalar.indexCast v515
  ![v516.toNat, v517.toNat]
def k0_cond2 (k0_t1 : Fin k0_t1_loop.trips) : BitVec 1 :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c7_i32 : BitVec 32 := 7#32
  let v519 : BitVec 32 := Scalar.muli v502 c7_i32
  let c16_i32_452 : BitVec 32 := 16#32
  let v520 : BitVec 32 := Scalar.remsi v519 c16_i32_452
  let c7_i32_453 : BitVec 32 := 7#32
  let v521 : BitVec 1 := Scalar.cmpi .slt v520 c7_i32_453
  let v522 : BitVec 32 := Scalar.extui v521
  let c0_i32_454 : BitVec 32 := 0#32
  let v523 : BitVec 1 := Scalar.cmpi .ne v522 c0_i32_454
  v523

def k0_off3 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v547 : Index := Scalar.indexCast v503
  let c0_457 : Index := 0#32
  let c0_458 : Index := 0#32
  let c0_459 : Index := 0#32
  let c0_460 : Index := 0#32
  ![v547.toNat, 0, 0, 0, 0]
def k0_off4 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v556 : Index := Scalar.indexCast v503
  let c0_461 : Index := 0#32
  let c1_462 : Index := 1#32
  let c0_463 : Index := 0#32
  let c0_464 : Index := 0#32
  ![v556.toNat, 0, 1, 0, 0]
def k0_off5 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v566 : Index := Scalar.indexCast v503
  let c1_465 : Index := 1#32
  let c0_466 : Index := 0#32
  let c0_467 : Index := 0#32
  let c0_468 : Index := 0#32
  ![v566.toNat, 1, 0, 0, 0]
def k0_off6 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v575 : Index := Scalar.indexCast v503
  let c1_469 : Index := 1#32
  let c1_470 : Index := 1#32
  let c0_471 : Index := 0#32
  let c0_472 : Index := 0#32
  ![v575.toNat, 1, 1, 0, 0]
def k0_off7 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v555 : Index := Scalar.indexCast v503
  let c0_459 : Index := 0#32
  let c0_460 : Index := 0#32
  let c0_461 : Index := 0#32
  let c0_462 : Index := 0#32
  ![v555.toNat, 0, 0, 0, 0]
def k0_off8 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v562 : Index := Scalar.indexCast v503
  let c0_463 : Index := 0#32
  let c1_464 : Index := 1#32
  let c0_465 : Index := 0#32
  let c0_466 : Index := 0#32
  ![v562.toNat, 0, 1, 0, 0]
def k0_off9 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v569 : Index := Scalar.indexCast v503
  let c0_467 : Index := 0#32
  let c2_468 : Index := 2#32
  let c0_469 : Index := 0#32
  let c0_470 : Index := 0#32
  ![v569.toNat, 0, 2, 0, 0]
def k0_off10 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v576 : Index := Scalar.indexCast v503
  let c0_471 : Index := 0#32
  let c3_472 : Index := 3#32
  let c0_473 : Index := 0#32
  let c0_474 : Index := 0#32
  ![v576.toNat, 0, 3, 0, 0]
def k0_off11 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v583 : Index := Scalar.indexCast v503
  let c0_475 : Index := 0#32
  let c4_476 : Index := 4#32
  let c0_477 : Index := 0#32
  let c0_478 : Index := 0#32
  ![v583.toNat, 0, 4, 0, 0]
def k0_off12 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v590 : Index := Scalar.indexCast v503
  let c0_479 : Index := 0#32
  let c5_480 : Index := 5#32
  let c0_481 : Index := 0#32
  let c0_482 : Index := 0#32
  ![v590.toNat, 0, 5, 0, 0]
def k0_off13 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v597 : Index := Scalar.indexCast v503
  let c0_483 : Index := 0#32
  let c6_484 : Index := 6#32
  let c0_485 : Index := 0#32
  let c0_486 : Index := 0#32
  ![v597.toNat, 0, 6, 0, 0]
def k0_off14 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v604 : Index := Scalar.indexCast v503
  let c0_487 : Index := 0#32
  let c7_488 : Index := 7#32
  let c0_489 : Index := 0#32
  let c0_490 : Index := 0#32
  ![v604.toNat, 0, 7, 0, 0]
def k0_off15 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v618 : Index := Scalar.indexCast v503
  let c1_491 : Index := 1#32
  let c0_492 : Index := 0#32
  let c0_493 : Index := 0#32
  let c0_494 : Index := 0#32
  ![v618.toNat, 1, 0, 0, 0]
def k0_off16 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v625 : Index := Scalar.indexCast v503
  let c1_495 : Index := 1#32
  let c1_496 : Index := 1#32
  let c0_497 : Index := 0#32
  let c0_498 : Index := 0#32
  ![v625.toNat, 1, 1, 0, 0]
def k0_off17 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v632 : Index := Scalar.indexCast v503
  let c1_499 : Index := 1#32
  let c2_500 : Index := 2#32
  let c0_501 : Index := 0#32
  let c0_502 : Index := 0#32
  ![v632.toNat, 1, 2, 0, 0]
def k0_off18 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v639 : Index := Scalar.indexCast v503
  let c1_503 : Index := 1#32
  let c3_504 : Index := 3#32
  let c0_505 : Index := 0#32
  let c0_506 : Index := 0#32
  ![v639.toNat, 1, 3, 0, 0]
def k0_off19 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v646 : Index := Scalar.indexCast v503
  let c1_507 : Index := 1#32
  let c4_508 : Index := 4#32
  let c0_509 : Index := 0#32
  let c0_510 : Index := 0#32
  ![v646.toNat, 1, 4, 0, 0]
def k0_off20 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v653 : Index := Scalar.indexCast v503
  let c1_511 : Index := 1#32
  let c5_512 : Index := 5#32
  let c0_513 : Index := 0#32
  let c0_514 : Index := 0#32
  ![v653.toNat, 1, 5, 0, 0]
def k0_off21 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v660 : Index := Scalar.indexCast v503
  let c1_515 : Index := 1#32
  let c6_516 : Index := 6#32
  let c0_517 : Index := 0#32
  let c0_518 : Index := 0#32
  ![v660.toNat, 1, 6, 0, 0]
def k0_off22 (k0_t1 : Fin k0_t1_loop.trips) : Fin 5 → Nat :=
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c16_i32 : BitVec 32 := 16#32
  let v503 : BitVec 32 := Scalar.divsi v502 c16_i32
  let v667 : Index := Scalar.indexCast v503
  let c1_519 : Index := 1#32
  let c7_520 : Index := 7#32
  let c0_521 : Index := 0#32
  let c0_522 : Index := 0#32
  ![v667.toNat, 1, 7, 0, 0]
def k0_off23 (k0_t1 : Fin k0_t1_loop.trips) : Fin 4 → Nat :=
  let c0_455 : Index := 0#32
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_449 : BitVec 32 := 2#32
  let v510 : BitVec 32 := Scalar.divsi v502 c2_i32_449
  let c16_i32_450 : BitVec 32 := 16#32
  let v511 : BitVec 32 := Scalar.muli v510 c16_i32_450
  let v512 : BitVec 32 := v511
  let v528 : Index := Scalar.indexCast v512
  let c2_i32_451 : BitVec 32 := 2#32
  let v513 : BitVec 32 := Scalar.remsi v502 c2_i32_451
  let c128_i32 : BitVec 32 := 128#32
  let v514 : BitVec 32 := Scalar.muli v513 c128_i32
  let v515 : BitVec 32 := v514
  let v529 : Index := Scalar.indexCast v515
  ![0, v528.toNat, 0, v529.toNat]
def k0_off24 (k0_t1 : Fin k0_t1_loop.trips) : Fin 4 → Nat :=
  let c1_456 : Index := 1#32
  let c0_i32_446 : BitVec 32 := 0#32
  let c0_i32_443 : BitVec 32 := 0#32
  let c1_i32 : BitVec 32 := 1#32
  let arg14 : BitVec 32 := Scf.iv c0_i32_443 c1_i32 k0_t1
  let c1_i32_445 : BitVec 32 := 1#32
  let v501 : BitVec 32 := Scalar.muli arg14 c1_i32_445
  let v502 : BitVec 32 := Scalar.addi c0_i32_446 v501
  let c2_i32_449 : BitVec 32 := 2#32
  let v510 : BitVec 32 := Scalar.divsi v502 c2_i32_449
  let c16_i32_450 : BitVec 32 := 16#32
  let v511 : BitVec 32 := Scalar.muli v510 c16_i32_450
  let v512 : BitVec 32 := v511
  let v536 : Index := Scalar.indexCast v512
  let c2_i32_451 : BitVec 32 := 2#32
  let v513 : BitVec 32 := Scalar.remsi v502 c2_i32_451
  let c128_i32 : BitVec 32 := 128#32
  let v514 : BitVec 32 := Scalar.muli v513 c128_i32
  let v515 : BitVec 32 := v514
  let v537 : Index := Scalar.indexCast v515
  ![1, v536.toNat, 0, v537.toNat]
def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

@[reducible] def k0_t2_loop : Scf.Loop 32 :=
  let c0_i32_3 : BitVec 32 := 0#32
  let c64_i32 : BitVec 32 := 64#32
  let v6 : BitVec 32 := Scalar.addi c0_i32_3 c64_i32
  let c1_i32 : BitVec 32 := 1#32
  ⟨c0_i32_3, v6, c1_i32⟩
def k0_off25 (k0_t2 : Fin k0_t2_loop.trips) : Fin 3 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v321 : Index := Scalar.indexCast v320
  let c0_85 : Index := 0#32
  let c0_86 : Index := 0#32
  ![v321.toNat, 0, 0]
def k0_mult4 (k0_t2 : Fin k0_t2_loop.trips) : BitVec 32 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  v325
def k0_mult5 (k0_t2 : Fin k0_t2_loop.trips) : BitVec 32 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  v328
def k0_mult6 (k0_t2 : Fin k0_t2_loop.trips) : BitVec 32 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_90 : BitVec 32 := 2#32
  let v330 : BitVec 32 := Scalar.remsi v319 c2_i32_90
  let c128_i32 : BitVec 32 := 128#32
  let v331 : BitVec 32 := Scalar.muli v330 c128_i32
  v331
def k0_off26 (k0_t2 : Fin k0_t2_loop.trips) : Fin 2 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  let v326 : BitVec 32 := v325
  let v333 : Index := Scalar.indexCast v326
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v334 : Index := Scalar.indexCast v332
  ![v333.toNat, v334.toNat]
def k0_cond4 (k0_t2 : Fin k0_t2_loop.trips) : BitVec 1 :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c7_i32 : BitVec 32 := 7#32
  let v336 : BitVec 32 := Scalar.muli v319 c7_i32
  let c16_i32_91 : BitVec 32 := 16#32
  let v337 : BitVec 32 := Scalar.remsi v336 c16_i32_91
  let c7_i32_92 : BitVec 32 := 7#32
  let v338 : BitVec 1 := Scalar.cmpi .slt v337 c7_i32_92
  let v339 : BitVec 32 := Scalar.extui v338
  let c0_i32_93 : BitVec 32 := 0#32
  let v340 : BitVec 1 := Scalar.cmpi .ne v339 c0_i32_93
  v340

def k0_off27 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v364 : Index := Scalar.indexCast v320
  let c0_96 : Index := 0#32
  let c0_97 : Index := 0#32
  let c0_98 : Index := 0#32
  let c0_99 : Index := 0#32
  ![v364.toNat, 0, 0, 0, 0]
def k0_off28 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v373 : Index := Scalar.indexCast v320
  let c0_100 : Index := 0#32
  let c1_101 : Index := 1#32
  let c0_102 : Index := 0#32
  let c0_103 : Index := 0#32
  ![v373.toNat, 0, 1, 0, 0]
def k0_off29 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v383 : Index := Scalar.indexCast v320
  let c1_104 : Index := 1#32
  let c0_105 : Index := 0#32
  let c0_106 : Index := 0#32
  let c0_107 : Index := 0#32
  ![v383.toNat, 1, 0, 0, 0]
def k0_off30 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v392 : Index := Scalar.indexCast v320
  let c1_108 : Index := 1#32
  let c1_109 : Index := 1#32
  let c0_110 : Index := 0#32
  let c0_111 : Index := 0#32
  ![v392.toNat, 1, 1, 0, 0]
def k0_off31 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v372 : Index := Scalar.indexCast v320
  let c0_98 : Index := 0#32
  let c0_99 : Index := 0#32
  let c0_100 : Index := 0#32
  let c0_101 : Index := 0#32
  ![v372.toNat, 0, 0, 0, 0]
def k0_off32 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v379 : Index := Scalar.indexCast v320
  let c0_102 : Index := 0#32
  let c1_103 : Index := 1#32
  let c0_104 : Index := 0#32
  let c0_105 : Index := 0#32
  ![v379.toNat, 0, 1, 0, 0]
def k0_off33 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v386 : Index := Scalar.indexCast v320
  let c0_106 : Index := 0#32
  let c2 : Index := 2#32
  let c0_107 : Index := 0#32
  let c0_108 : Index := 0#32
  ![v386.toNat, 0, 2, 0, 0]
def k0_off34 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v393 : Index := Scalar.indexCast v320
  let c0_109 : Index := 0#32
  let c3 : Index := 3#32
  let c0_110 : Index := 0#32
  let c0_111 : Index := 0#32
  ![v393.toNat, 0, 3, 0, 0]
def k0_off35 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v400 : Index := Scalar.indexCast v320
  let c0_112 : Index := 0#32
  let c4 : Index := 4#32
  let c0_113 : Index := 0#32
  let c0_114 : Index := 0#32
  ![v400.toNat, 0, 4, 0, 0]
def k0_off36 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v407 : Index := Scalar.indexCast v320
  let c0_115 : Index := 0#32
  let c5 : Index := 5#32
  let c0_116 : Index := 0#32
  let c0_117 : Index := 0#32
  ![v407.toNat, 0, 5, 0, 0]
def k0_off37 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v414 : Index := Scalar.indexCast v320
  let c0_118 : Index := 0#32
  let c6 : Index := 6#32
  let c0_119 : Index := 0#32
  let c0_120 : Index := 0#32
  ![v414.toNat, 0, 6, 0, 0]
def k0_off38 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v421 : Index := Scalar.indexCast v320
  let c0_121 : Index := 0#32
  let c7 : Index := 7#32
  let c0_122 : Index := 0#32
  let c0_123 : Index := 0#32
  ![v421.toNat, 0, 7, 0, 0]
def k0_off39 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v435 : Index := Scalar.indexCast v320
  let c1_124 : Index := 1#32
  let c0_125 : Index := 0#32
  let c0_126 : Index := 0#32
  let c0_127 : Index := 0#32
  ![v435.toNat, 1, 0, 0, 0]
def k0_off40 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v442 : Index := Scalar.indexCast v320
  let c1_128 : Index := 1#32
  let c1_129 : Index := 1#32
  let c0_130 : Index := 0#32
  let c0_131 : Index := 0#32
  ![v442.toNat, 1, 1, 0, 0]
def k0_off41 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v449 : Index := Scalar.indexCast v320
  let c1_132 : Index := 1#32
  let c2_133 : Index := 2#32
  let c0_134 : Index := 0#32
  let c0_135 : Index := 0#32
  ![v449.toNat, 1, 2, 0, 0]
def k0_off42 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v456 : Index := Scalar.indexCast v320
  let c1_136 : Index := 1#32
  let c3_137 : Index := 3#32
  let c0_138 : Index := 0#32
  let c0_139 : Index := 0#32
  ![v456.toNat, 1, 3, 0, 0]
def k0_off43 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v463 : Index := Scalar.indexCast v320
  let c1_140 : Index := 1#32
  let c4_141 : Index := 4#32
  let c0_142 : Index := 0#32
  let c0_143 : Index := 0#32
  ![v463.toNat, 1, 4, 0, 0]
def k0_off44 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v470 : Index := Scalar.indexCast v320
  let c1_144 : Index := 1#32
  let c5_145 : Index := 5#32
  let c0_146 : Index := 0#32
  let c0_147 : Index := 0#32
  ![v470.toNat, 1, 5, 0, 0]
def k0_off45 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v477 : Index := Scalar.indexCast v320
  let c1_148 : Index := 1#32
  let c6_149 : Index := 6#32
  let c0_150 : Index := 0#32
  let c0_151 : Index := 0#32
  ![v477.toNat, 1, 6, 0, 0]
def k0_off46 (k0_t2 : Fin k0_t2_loop.trips) : Fin 5 → Nat :=
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v484 : Index := Scalar.indexCast v320
  let c1_152 : Index := 1#32
  let c7_153 : Index := 7#32
  let c0_154 : Index := 0#32
  let c0_155 : Index := 0#32
  ![v484.toNat, 1, 7, 0, 0]
def k0_off47 (k0_t2 : Fin k0_t2_loop.trips) : Fin 4 → Nat :=
  let c0_94 : Index := 0#32
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v345 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v346 : Index := Scalar.indexCast v332
  ![0, v345.toNat, 0, v346.toNat]
def k0_off48 (k0_t2 : Fin k0_t2_loop.trips) : Fin 4 → Nat :=
  let c1_95 : Index := 1#32
  let c0_i32_84 : BitVec 32 := 0#32
  let c0_i32_3 : BitVec 32 := 0#32
  let c1_i32 : BitVec 32 := 1#32
  let arg14 : BitVec 32 := Scf.iv c0_i32_3 c1_i32 k0_t2
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v353 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v354 : Index := Scalar.indexCast v332
  ![1, v353.toNat, 0, v354.toNat]
@[reducible] def k0_t3_loop : Scf.Loop 32 :=
  let c0_i32_40 : BitVec 32 := 0#32
  let c64_i32_41 : BitVec 32 := 64#32
  let v162 : BitVec 32 := Scalar.addi c0_i32_40 c64_i32_41
  let c1_i32_42 : BitVec 32 := 1#32
  ⟨c0_i32_40, v162, c1_i32_42⟩
def k0_off49 (k0_t3 : Fin k0_t3_loop.trips) : Fin 3 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v321 : Index := Scalar.indexCast v320
  let c0_85 : Index := 0#32
  let c0_86 : Index := 0#32
  ![v321.toNat, 0, 0]
def k0_mult7 (k0_t3 : Fin k0_t3_loop.trips) : BitVec 32 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  v325
def k0_mult8 (k0_t3 : Fin k0_t3_loop.trips) : BitVec 32 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  v328
def k0_mult9 (k0_t3 : Fin k0_t3_loop.trips) : BitVec 32 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_90 : BitVec 32 := 2#32
  let v330 : BitVec 32 := Scalar.remsi v319 c2_i32_90
  let c128_i32 : BitVec 32 := 128#32
  let v331 : BitVec 32 := Scalar.muli v330 c128_i32
  v331
def k0_off50 (k0_t3 : Fin k0_t3_loop.trips) : Fin 2 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_87 : BitVec 32 := 2#32
  let v324 : BitVec 32 := Scalar.divsi v319 c2_i32_87
  let c32_i32 : BitVec 32 := 32#32
  let v325 : BitVec 32 := Scalar.muli v324 c32_i32
  let v326 : BitVec 32 := v325
  let v333 : Index := Scalar.indexCast v326
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v334 : Index := Scalar.indexCast v332
  ![v333.toNat, v334.toNat]
def k0_cond5 (k0_t3 : Fin k0_t3_loop.trips) : BitVec 1 :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c7_i32 : BitVec 32 := 7#32
  let v336 : BitVec 32 := Scalar.muli v319 c7_i32
  let c16_i32_91 : BitVec 32 := 16#32
  let v337 : BitVec 32 := Scalar.remsi v336 c16_i32_91
  let c7_i32_92 : BitVec 32 := 7#32
  let v338 : BitVec 1 := Scalar.cmpi .slt v337 c7_i32_92
  let v339 : BitVec 32 := Scalar.extui v338
  let c0_i32_93 : BitVec 32 := 0#32
  let v340 : BitVec 1 := Scalar.cmpi .ne v339 c0_i32_93
  v340

def k0_off51 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v364 : Index := Scalar.indexCast v320
  let c0_96 : Index := 0#32
  let c0_97 : Index := 0#32
  let c0_98 : Index := 0#32
  let c0_99 : Index := 0#32
  ![v364.toNat, 0, 0, 0, 0]
def k0_off52 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v373 : Index := Scalar.indexCast v320
  let c0_100 : Index := 0#32
  let c1_101 : Index := 1#32
  let c0_102 : Index := 0#32
  let c0_103 : Index := 0#32
  ![v373.toNat, 0, 1, 0, 0]
def k0_off53 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v383 : Index := Scalar.indexCast v320
  let c1_104 : Index := 1#32
  let c0_105 : Index := 0#32
  let c0_106 : Index := 0#32
  let c0_107 : Index := 0#32
  ![v383.toNat, 1, 0, 0, 0]
def k0_off54 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v392 : Index := Scalar.indexCast v320
  let c1_108 : Index := 1#32
  let c1_109 : Index := 1#32
  let c0_110 : Index := 0#32
  let c0_111 : Index := 0#32
  ![v392.toNat, 1, 1, 0, 0]
def k0_off55 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v372 : Index := Scalar.indexCast v320
  let c0_98 : Index := 0#32
  let c0_99 : Index := 0#32
  let c0_100 : Index := 0#32
  let c0_101 : Index := 0#32
  ![v372.toNat, 0, 0, 0, 0]
def k0_off56 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v379 : Index := Scalar.indexCast v320
  let c0_102 : Index := 0#32
  let c1_103 : Index := 1#32
  let c0_104 : Index := 0#32
  let c0_105 : Index := 0#32
  ![v379.toNat, 0, 1, 0, 0]
def k0_off57 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v386 : Index := Scalar.indexCast v320
  let c0_106 : Index := 0#32
  let c2 : Index := 2#32
  let c0_107 : Index := 0#32
  let c0_108 : Index := 0#32
  ![v386.toNat, 0, 2, 0, 0]
def k0_off58 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v393 : Index := Scalar.indexCast v320
  let c0_109 : Index := 0#32
  let c3 : Index := 3#32
  let c0_110 : Index := 0#32
  let c0_111 : Index := 0#32
  ![v393.toNat, 0, 3, 0, 0]
def k0_off59 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v400 : Index := Scalar.indexCast v320
  let c0_112 : Index := 0#32
  let c4 : Index := 4#32
  let c0_113 : Index := 0#32
  let c0_114 : Index := 0#32
  ![v400.toNat, 0, 4, 0, 0]
def k0_off60 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v407 : Index := Scalar.indexCast v320
  let c0_115 : Index := 0#32
  let c5 : Index := 5#32
  let c0_116 : Index := 0#32
  let c0_117 : Index := 0#32
  ![v407.toNat, 0, 5, 0, 0]
def k0_off61 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v414 : Index := Scalar.indexCast v320
  let c0_118 : Index := 0#32
  let c6 : Index := 6#32
  let c0_119 : Index := 0#32
  let c0_120 : Index := 0#32
  ![v414.toNat, 0, 6, 0, 0]
def k0_off62 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v421 : Index := Scalar.indexCast v320
  let c0_121 : Index := 0#32
  let c7 : Index := 7#32
  let c0_122 : Index := 0#32
  let c0_123 : Index := 0#32
  ![v421.toNat, 0, 7, 0, 0]
def k0_off63 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v435 : Index := Scalar.indexCast v320
  let c1_124 : Index := 1#32
  let c0_125 : Index := 0#32
  let c0_126 : Index := 0#32
  let c0_127 : Index := 0#32
  ![v435.toNat, 1, 0, 0, 0]
def k0_off64 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v442 : Index := Scalar.indexCast v320
  let c1_128 : Index := 1#32
  let c1_129 : Index := 1#32
  let c0_130 : Index := 0#32
  let c0_131 : Index := 0#32
  ![v442.toNat, 1, 1, 0, 0]
def k0_off65 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v449 : Index := Scalar.indexCast v320
  let c1_132 : Index := 1#32
  let c2_133 : Index := 2#32
  let c0_134 : Index := 0#32
  let c0_135 : Index := 0#32
  ![v449.toNat, 1, 2, 0, 0]
def k0_off66 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v456 : Index := Scalar.indexCast v320
  let c1_136 : Index := 1#32
  let c3_137 : Index := 3#32
  let c0_138 : Index := 0#32
  let c0_139 : Index := 0#32
  ![v456.toNat, 1, 3, 0, 0]
def k0_off67 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v463 : Index := Scalar.indexCast v320
  let c1_140 : Index := 1#32
  let c4_141 : Index := 4#32
  let c0_142 : Index := 0#32
  let c0_143 : Index := 0#32
  ![v463.toNat, 1, 4, 0, 0]
def k0_off68 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v470 : Index := Scalar.indexCast v320
  let c1_144 : Index := 1#32
  let c5_145 : Index := 5#32
  let c0_146 : Index := 0#32
  let c0_147 : Index := 0#32
  ![v470.toNat, 1, 5, 0, 0]
def k0_off69 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v477 : Index := Scalar.indexCast v320
  let c1_148 : Index := 1#32
  let c6_149 : Index := 6#32
  let c0_150 : Index := 0#32
  let c0_151 : Index := 0#32
  ![v477.toNat, 1, 6, 0, 0]
def k0_off70 (k0_t3 : Fin k0_t3_loop.trips) : Fin 5 → Nat :=
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c16_i32 : BitVec 32 := 16#32
  let v320 : BitVec 32 := Scalar.divsi v319 c16_i32
  let v484 : Index := Scalar.indexCast v320
  let c1_152 : Index := 1#32
  let c7_153 : Index := 7#32
  let c0_154 : Index := 0#32
  let c0_155 : Index := 0#32
  ![v484.toNat, 1, 7, 0, 0]
def k0_off71 (k0_t3 : Fin k0_t3_loop.trips) : Fin 4 → Nat :=
  let c0_94 : Index := 0#32
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v345 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v346 : Index := Scalar.indexCast v332
  ![0, v345.toNat, 0, v346.toNat]
def k0_off72 (k0_t3 : Fin k0_t3_loop.trips) : Fin 4 → Nat :=
  let c1_95 : Index := 1#32
  let c0_i32_84 : BitVec 32 := 0#32
  let c0_i32_40 : BitVec 32 := 0#32
  let c1_i32_42 : BitVec 32 := 1#32
  let arg14 : BitVec 32 := Scf.iv c0_i32_40 c1_i32_42 k0_t3
  let c1_i32_83 : BitVec 32 := 1#32
  let v318 : BitVec 32 := Scalar.muli arg14 c1_i32_83
  let v319 : BitVec 32 := Scalar.addi c0_i32_84 v318
  let c2_i32_88 : BitVec 32 := 2#32
  let v327 : BitVec 32 := Scalar.divsi v319 c2_i32_88
  let c16_i32_89 : BitVec 32 := 16#32
  let v328 : BitVec 32 := Scalar.muli v327 c16_i32_89
  let v329 : BitVec 32 := v328
  let v353 : Index := Scalar.indexCast v329
  let c2_i32_90 : BitVec 32 := 2#32
  let v330 : BitVec 32 := Scalar.remsi v319 c2_i32_90
  let c128_i32 : BitVec 32 := 128#32
  let v331 : BitVec 32 := Scalar.muli v330 c128_i32
  let v332 : BitVec 32 := v331
  let v354 : Index := Scalar.indexCast v332
  ![1, v353.toNat, 0, v354.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c51_i32 : BitVec 32 := 51#32
  let v1 : BitVec 32 := Scalar.minsi v0 c51_i32
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x4x256 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x256x1024 : Shape := ⟨3, ![1, 256, 1024]⟩
abbrev S1024x13312 : Shape := ⟨2, ![1024, 13312]⟩
abbrev S4x256x2 : Shape := ⟨3, ![4, 256, 2]⟩
abbrev S4 : Shape := ⟨1, ![4]⟩
abbrev S26624 : Shape := ⟨1, ![26624]⟩
abbrev S4x512 : Shape := ⟨2, ![4, 512]⟩
abbrev S4x1 : Shape := ⟨2, ![4, 1]⟩
abbrev S1024x2 : Shape := ⟨2, ![1024, 2]⟩
abbrev S1024 : Shape := ⟨1, ![1024]⟩
abbrev S_ : Shape := ⟨0, ![]⟩
abbrev S1024x1 : Shape := ⟨2, ![1024, 1]⟩
abbrev S1024x13312x1 : Shape := ⟨3, ![1024, 13312, 1]⟩
abbrev S1024x13312x2 : Shape := ⟨3, ![1024, 13312, 2]⟩
abbrev S1024x26624 : Shape := ⟨2, ![1024, 26624]⟩
abbrev S1x256x26624 : Shape := ⟨3, ![1, 256, 26624]⟩
abbrev S1x1x26624 : Shape := ⟨3, ![1, 1, 26624]⟩
abbrev S256x26624 : Shape := ⟨2, ![256, 26624]⟩

abbrev nBuf : Space → Nat
  | .hbm => 44
  | .vmem => 3
  | .smem => 0
  | _ => 0

abbrev bufTy : (tb : Table) → Fin (tcTables nBuf tb) → BufTy
  | .hbm, ⟨0, _⟩ => ⟨S1x256x1024, .bf16⟩
  | .hbm, ⟨1, _⟩ => ⟨S1024x13312, .i8⟩
  | .hbm, ⟨2, _⟩ => ⟨S4x256x2, .i8⟩
  | .hbm, ⟨3, _⟩ => ⟨S4, .bf16⟩
  | .hbm, ⟨4, _⟩ => ⟨S26624, .f32⟩
  | .hbm, ⟨5, _⟩ => ⟨S4x512, .i8⟩
  | .hbm, ⟨6, _⟩ => ⟨S4x1, .bf16⟩
  | .hbm, ⟨7, _⟩ => ⟨S4x512, .bf16⟩
  | .hbm, ⟨8, _⟩ => ⟨S1024x2, .bf16⟩
  | .hbm, ⟨9, _⟩ => ⟨S1024, .i32⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S_, .i32⟩
  | .hbm, ⟨30, _⟩ => ⟨S1024x1, .i32⟩
  | .hbm, ⟨31, _⟩ => ⟨S1024x1, .i32⟩
  | .hbm, ⟨32, _⟩ => ⟨S1024x13312, .i32⟩
  | .hbm, ⟨33, _⟩ => ⟨S1024x13312, .i32⟩
  | .hbm, ⟨34, _⟩ => ⟨S1024x13312, .i32⟩
  | .hbm, ⟨35, _⟩ => ⟨S1024x13312x1, .i32⟩
  | .hbm, ⟨36, _⟩ => ⟨S1024x13312x2, .bf16⟩
  | .hbm, ⟨37, _⟩ => ⟨S1024x26624, .bf16⟩
  | .hbm, ⟨38, _⟩ => ⟨S1x256x26624, .f32⟩
  | .hbm, ⟨39, _⟩ => ⟨S1x1x26624, .f32⟩
  | .hbm, ⟨40, _⟩ => ⟨S1x256x26624, .f32⟩
  | .hbm, ⟨41, _⟩ => ⟨S1x256x26624, .f32⟩
  | .hbm, ⟨42, _⟩ => ⟨S1x256x26624, .bf16⟩
  | .hbm, ⟨43, _⟩ => ⟨S256x26624, .bf16⟩
  | .local _ .vmem, ⟨0, _⟩ => ⟨S4x512, .i8⟩
  | .local _ .vmem, ⟨1, _⟩ => ⟨S4x1, .bf16⟩
  | .local _ .vmem, ⟨2, _⟩ => ⟨S4x512, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_call1_v0 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Loops.lean ====
/-
  The three counted loops of the kernel, for the frame claim: a trip of the weights' lookup keeps every buffer it
  reads and leaves its target buffer at some contents.
-/
module

public import proofs.«01_k».proof.Proof.Gen.Kernel.Frame
public import proofs.«01_k».proof.Proof.Gen.Kernel.Loops

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The certificate's user algebra: the frame kit's. -/
abbrev UU (nD : Nat) (τ : Topo) : Type := UR sig nD τ
/-- The certificate declares no variants. -/
abbrev 𝒱₀ : Variants := Variants.none

local notation "𝕄" => MT nD τ sig Unit (Elt F) ℕ (UR sig nD τ) ℕ

/-- Loop 1 of the body: between trips the buffers it reads hold what they held, and its target something. -/
@[sl_loop] noncomputable def loopInv_k0_t1 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x1024 .i32) (harg11 : arg11.IsWhole) (arg12 : Memref sig .tc .vmem S2x512x256 .i32) (harg12 : arg12.IsWhole) (arg13 : Memref sig .tc .vmem S2x512x256 .i32) (harg13 : arg13.IsWhole) (k0_h1 : k0_cond1 i = 1#1)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) :
    Cert.Kernel.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h1 where
  inv := fun _ _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg12.view.loc (c : Thread nD τ)), (arg12.view.loc (c : Thread nD τ) ↦[arg12.view.set]{fullShare} g))
  step := fun k acc => by
    unfold Gen.k0_t1_body
    iintro ⟨H3, H8, H9, H10, %g, Hw⟩
    by_cases hc : k0_cond2 k = 1#1
    · sl_exec
      sl_step
      sl_close
    · sl_exec
      sl_step
      sl_close

/-- Loop 2 of the body: between trips the buffers it reads hold what they held, and its target something. -/
@[sl_loop] noncomputable def loopInv_k0_t2 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x1024 .i32) (harg11 : arg11.IsWhole) (arg12 : Memref sig .tc .vmem S2x512x256 .i32) (harg12 : arg12.IsWhole) (arg13 : Memref sig .tc .vmem S2x512x256 .i32) (harg13 : arg13.IsWhole) (k0_h3 : k0_cond3 i = 1#1)
    (f2 : Buf (Elt F) (arg2.view.loc (c : Thread nD τ))) (f8 : Buf (Elt F) (arg8.view.loc (c : Thread nD τ))) (f9 : Buf (Elt F) (arg9.view.loc (c : Thread nD τ))) (f10 : Buf (Elt F) (arg10.view.loc (c : Thread nD τ))) :
    Cert.Kernel.Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 where
  inv := fun _ _ => iprop((arg2.view.loc (c : Thread nD τ) ↦[arg2.view.set]{fullShare} f2) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg13.view.loc (c : Thread nD τ)), (arg13.view.loc (c : Thread nD τ) ↦[arg13.view.set]{fullShare} g))
  step := fun k acc => by
    unfold Gen.k0_t2_body
    iintro ⟨H2, H8, H9, H10, %g, Hw⟩
    by_cases hc : k0_cond4 k = 1#1
    · sl_exec
      sl_step
      sl_close
    · sl_exec
      sl_step
      sl_close

/-- Loop 3 of the body: between trips the buffers it reads hold what they held, and its target something. -/
@[sl_loop] noncomputable def loopInv_k0_t3 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x1024 .i32) (harg11 : arg11.IsWhole) (arg12 : Memref sig .tc .vmem S2x512x256 .i32) (harg12 : arg12.IsWhole) (arg13 : Memref sig .tc .vmem S2x512x256 .i32) (harg13 : arg13.IsWhole) (k0_h3 : k0_cond3 i = 1#1) (v53 : IVec S256x128 32) (v79 : IVec S256x128 32) (v83 : IVec S256x128 1) (v135 : FVec F S256x128 .f32) (v138 : FVec F S1x128 .f32) (v139 : FVec F S256x128 .f32)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) :
    Cert.Kernel.Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 v53 v79 v83 v135 v138 v139 where
  inv := fun _ _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg12.view.loc (c : Thread nD τ)), (arg12.view.loc (c : Thread nD τ) ↦[arg12.view.set]{fullShare} g))
  step := fun k acc => by
    unfold Gen.k0_t3_body
    iintro ⟨H3, H8, H9, H10, %g, Hw⟩
    by_cases hc : k0_cond5 k = 1#1
    · sl_exec
      sl_step
      sl_close
    · sl_exec
      sl_step
      sl_close

end Cert.Proof.Kernel

end
-- ==== Proof.Kernel.Body.lean ====
/-
  The kernel body's run for the frame claim, at either kind of grid point: the six operand blocks it is given are
  kept, the result's staging buffer and the six scratch buffers end at some contents.
-/
module

public import proofs.«01_k».proof.Proof.Kernel.Loops
public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

set_option maxHeartbeats 4000000 in
/-- The first grid point: the operand blocks are kept, the other buffers end at some contents. -/
theorem body_first (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x1024 .i32) (harg11 : arg11.IsWhole) (arg12 : Memref sig .tc .vmem S2x512x256 .i32) (harg12 : arg12.IsWhole) (arg13 : Memref sig .tc .vmem S2x512x256 .i32) (harg13 : arg13.IsWhole)
    (h1 : k0_cond1 i = 1#1) (h3 : ¬ k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (K : PUnit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))) -∗ K ⟨⟩)) : sProp 𝕄)
      ⊢ wp frame (wpE (defs₀ (F := F)) 𝒱₀ (c : Thread nD τ) none) Set.univ (cc0_vq_linear i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, ⟨%g7, H7⟩, ⟨%g8, H8⟩, ⟨%g9, H9⟩, ⟨%g10, H10⟩, ⟨%g11, H11⟩, ⟨%g12, H12⟩, ⟨%g13, H13⟩, Hk⟩
  sl_unfold [cc0_vq_linear]
  sl_exec_parts
  sl_step
  iapply Hk
  sl_close

set_option maxHeartbeats 4000000 in
/-- A later grid point: the operand blocks are kept, the other buffers end at some contents. -/
theorem body_later (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x1024 .i32) (harg11 : arg11.IsWhole) (arg12 : Memref sig .tc .vmem S2x512x256 .i32) (harg12 : arg12.IsWhole) (arg13 : Memref sig .tc .vmem S2x512x256 .i32) (harg13 : arg13.IsWhole)
    (h1 : ¬ k0_cond1 i = 1#1) (h3 : k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (K : PUnit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))) -∗ K ⟨⟩)) : sProp 𝕄)
      ⊢ wp frame (wpE (defs₀ (F := F)) 𝒱₀ (c : Thread nD τ) none) Set.univ (cc0_vq_linear i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, ⟨%g7, H7⟩, ⟨%g8, H8⟩, ⟨%g9, H9⟩, ⟨%g10, H10⟩, ⟨%g11, H11⟩, ⟨%g12, H12⟩, ⟨%g13, H13⟩, Hk⟩
  sl_unfold [cc0_vq_linear]
  sl_exec_parts
  sl_step
  iapply Hk
  sl_close

end Cert.Proof.Kernel

end
-- ==== Proof.Kernel.Run.lean ====
/-
  The program as it runs on bits: its frame. The pipeline's proof data leaves every operand block in place and says
  nothing of the result, the body's run (Body.lean) meets it at every grid point, and the run of the whole program
  leaves the five arguments as they were and every semaphore counter at zero.
-/
module

public import proofs.«01_k».proof.Proof.Kernel.Body
public import proofs.«01_k».proof.Proof.Gen.Kernel.Frame
public import proofs.«01_k».proof.Proof.Gen.Kernel.Points
public import Idealize.ShloMosaic.Lib.Pipeline.FrameBody

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

open Idealize.ShloMosaic.Pipeline (Dat Cfg Window BodyObligation BodyObligationLoose cellOf)

local notation "𝕄" => MT nD τ sig Unit (Elt F) ℕ (UR sig nD τ) ℕ

variable (m : (ℓ : Loc nD τ sig) → Buf (Elt F) ℓ) (ρ : Dev nD → PrngReg)

/-- Window 6, the result's, is the one the proof data says nothing of. -/
def fgt : Fin cfg0.W → Bool := fun w => w == (6 : Fin 7)

/-- The pipeline's proof data on core `c`: the arrays as the region finds them, every operand's block left in
    place, the scratch buffers and the PRNG register held between the points. -/
def dat (c : Dev nD) : Dat τ (Elt F) Unit ℕ (UR sig nD τ) ℕ cfg0 c where
  A := fun w => V m c (Pipeline.arrRef spec0 w)
  after := fun w => match w with
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => Dat.unnamed (6 : Fin 7) t
  Φ := fun _ => Pipeline.ΦA spec0 c
  q := Pipeline.shareOf spec0
  owed := fun _ => 0

/-- The one pipeline's proof data. -/
def dats : (p : Fin 1) → (c : Dev nD) → Dat τ (Elt F) Unit ℕ (UR sig nD τ) ℕ (cfgs p) c :=
  fun p => match p with | 0 => dat m

/-- The proof data's arrays are the ones the kernel finds. -/
theorem hA (c : Dev nD) (w : Fin cfg0.W) : (dats m 0 c).A w = V m c (Pipeline.arrRef spec0 w) := rfl

/-- Window 0's staging buffer holds its block when the body starts. -/
theorem before_0 (c : Dev nD) (t : Fin cfg0.N) (d) : (dats m 0 c).before 0 t d = iblk m c 0 t :=
  before0_0_of m (dats m 0 c) rfl (fun _ => rfl) t d

/-- Window 1's staging buffer holds its block when the body starts. -/
theorem before_1 (c : Dev nD) (t : Fin cfg0.N) (d) : (dats m 0 c).before 1 t d = iblk m c 1 t :=
  before0_1_of m (dats m 0 c) rfl (fun _ => rfl) t d

/-- Window 2's staging buffer holds its block when the body starts. -/
theorem before_2 (c : Dev nD) (t : Fin cfg0.N) (d) : (dats m 0 c).before 2 t d = iblk m c 2 t :=
  before0_2_of m (dats m 0 c) rfl (fun _ => rfl) t d

/-- Window 3's staging buffer holds its block when the body starts. -/
theorem before_3 (c : Dev nD) (t : Fin cfg0.N) (d) : (dats m 0 c).before 3 t d = iblk m c 3 t :=
  before0_3_of m (dats m 0 c) rfl (fun _ => rfl) t d

/-- Window 4's staging buffer holds its block when the body starts. -/
theorem before_4 (c : Dev nD) (t : Fin cfg0.N) (d) : (dats m 0 c).before 4 t d = iblk m c 4 t :=
  before0_4_of m (dats m 0 c) rfl (fun _ => rfl) t d

/-- Window 5's staging buffer holds its block when the body starts. -/
theorem before_5 (c : Dev nD) (t : Fin cfg0.N) (d) : (dats m 0 c).before 5 t d = iblk m c 5 t :=
  before0_5_of m (dats m 0 c) rfl (fun _ => rfl) t d

/-- A grid point is the first, which only prepares, or a later one, which only computes. -/
theorem cond_cases : ∀ t : Fin cfg0.N, (k0_cond1 (grid0.coords t) = 1#1 ∧ ¬ k0_cond3 (grid0.coords t) = 1#1)
    ∨ (¬ k0_cond1 (grid0.coords t) = 1#1 ∧ k0_cond3 (grid0.coords t) = 1#1) := by decide +kernel

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X))

/-- A buffer held whole at some contents, spelt through its whole memref. -/
theorem pt_whole (c : Dev nD) (b : Ref sig .tc) :
    (iprop(∃ f : Buf (Elt F) ((c : Thread nD τ).loc b), ((c : Thread nD τ).loc b) ↦{fullShare} f) : sProp 𝕄)
      = iprop(∃ g : Buf (Elt F) ((Memref.whole b).view.loc (c : Thread nD τ)), ((Memref.whole b).view.loc (c : Thread nD τ) ↦[(Memref.whole b).view.set]{fullShare} g)) := by
  rw [show (Memref.whole b).view.set = Finset.univ from View.set_whole b]

/-- The scratch buffers, held whole at some contents, with the PRNG register. -/
theorem PhiA_eq (c : Dev nD) : (Pipeline.ΦA spec0 c : sProp 𝕄) = iprop(((∃ g : Buf (Elt F) ((Memref.whole cc0_scratch0).view.loc (c : Thread nD τ)), ((Memref.whole cc0_scratch0).view.loc (c : Thread nD τ) ↦[(Memref.whole cc0_scratch0).view.set]{fullShare} g)) ∗ (∃ g : Buf (Elt F) ((Memref.whole cc0_scratch1).view.loc (c : Thread nD τ)), ((Memref.whole cc0_scratch1).view.loc (c : Thread nD τ) ↦[(Memref.whole cc0_scratch1).view.set]{fullShare} g)) ∗ (∃ g : Buf (Elt F) ((Memref.whole cc0_scratch2).view.loc (c : Thread nD τ)), ((Memref.whole cc0_scratch2).view.loc (c : Thread nD τ) ↦[(Memref.whole cc0_scratch2).view.set]{fullShare} g)) ∗ (∃ g : Buf (Elt F) ((Memref.whole cc0_scratch3).view.loc (c : Thread nD τ)), ((Memref.whole cc0_scratch3).view.loc (c : Thread nD τ) ↦[(Memref.whole cc0_scratch3).view.set]{fullShare} g)) ∗ (∃ g : Buf (Elt F) ((Memref.whole cc0_scratch4).view.loc (c : Thread nD τ)), ((Memref.whole cc0_scratch4).view.loc (c : Thread nD τ) ↦[(Memref.whole cc0_scratch4).view.set]{fullShare} g)) ∗ (∃ g : Buf (Elt F) ((Memref.whole cc0_scratch5).view.loc (c : Thread nD τ)), ((Memref.whole cc0_scratch5).view.loc (c : Thread nD τ) ↦[(Memref.whole cc0_scratch5).view.set]{fullShare} g))) ∗ ∃ r, prngReg c r) := by
  unfold Pipeline.ΦA
  rw [scopedRest0_eq]
  exact congrArg₂ _ (congrArg₂ _ (pt_whole c cc0_scratch0) (congrArg₂ _ (pt_whole c cc0_scratch1) (congrArg₂ _ (pt_whole c cc0_scratch2) (congrArg₂ _ (pt_whole c cc0_scratch3) (congrArg₂ _ (pt_whole c cc0_scratch4) (pt_whole c cc0_scratch5)))))) rfl

set_option maxHeartbeats 1000000 in
/-- The body at any point meets its obligation. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [PhiA_eq]
  unfold owns
  iintro ⟨⟨⟨S0, S1, S2, S3, S4, S5⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%X, %f6, -, H6⟩⟩
  rcases cond_cases t with ⟨h1, h3⟩ | ⟨h1, h3⟩
  · iapply (body_first c _ _ _ _ _ _ _ _ _ _ _ _ _ _ _ _ _ _ _ _ _ _ _ _ _ _ _ h1 h3 f0 f1 f2 f3 f4 f5 _)
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, ⟨%g6, H6⟩, S0, S1, S2, S3, S4, S5⟩
    isplitl [S0 S1 S2 S3 S4 S5 Hr]
    · isplitr [Hr]
      swap; · iexact Hr
      isplitl [S0]; · iexact S0
      isplitl [S1]; · iexact S1
      isplitl [S2]; · iexact S2
      isplitl [S3]; · iexact S3
      isplitl [S4]; · iexact S4
      iexact S5
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    iexists _; iexists g6; isplitr
    swap; · iexact H6
    ipureintro; rfl
  · iapply (body_later c _ _ _ _ _ _ _ _ _ _ _ _ _ _ _ _ _ _ _ _ _ _ _ _ _ _ _ h1 h3 f0 f1 f2 f3 f4 f5 _)
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, ⟨%g6, H6⟩, S0, S1, S2, S3, S4, S5⟩
    isplitl [S0 S1 S2 S3 S4 S5 Hr]
    · isplitr [Hr]
      swap; · iexact Hr
      isplitl [S0]; · iexact S0
      isplitl [S1]; · iexact S1
      isplitl [S2]; · iexact S2
      isplitl [S3]; · iexact S3
      isplitl [S4]; · iexact S4
      iexact S5
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    iexists _; iexists g6; isplitr
    swap; · iexact H6
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, window 6 forgotten. -/
theorem body_obligation (c : Dev nD) : BodyObligationLoose (dats (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every weakly fair execution of the program terminates, the arrays as the proof data says and every
    semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ 𝒱₀ fgt m ρ main
    (hbody := body_obligation m) (hq := fun _ _ _ => rfl) (howed := fun _ _ => rfl) (V := V m)
    (hmain := hmain m 𝒱₀) (hA := hA m) (hΦ := fun _ _ => rfl)

/-- The frame claim: every execution terminates, the five arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (by decide))).trans (V_main_arg0 m c),
      (Pipeline.RDat.FramePost.arr_in h.1 c 2 rfl).trans ((hA m c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Proof.Kernel

end
-- ==== Proof.KernelIdeal.Loops.lean ====
/-
  The three counted loops of the kernel, for the frame claim: a trip of the weights' lookup keeps every buffer it
  reads and leaves its target buffer at some contents.
-/
module

public import proofs.«01_k».proof.Proof.Gen.KernelIdeal.Frame
public import proofs.«01_k».proof.Proof.Gen.KernelIdeal.Loops

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The certificate's user algebra: the frame kit's. -/
abbrev UU (nD : Nat) (τ : Topo) : Type := UR sig nD τ
/-- The certificate declares no variants. -/
abbrev 𝒱₀ : Variants := Variants.none

local notation "𝕄" => MT nD τ sig Unit (Elt F) ℕ (UR sig nD τ) ℕ

/-- Loop 1 of the body: between trips the buffers it reads hold what they held, and its target something. -/
@[sl_loop] noncomputable def loopInv_k0_t1 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole) (k0_h1 : k0_cond1 i = 1#1)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) :
    Cert.KernelIdeal.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h1 where
  inv := fun _ _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg12.view.loc (c : Thread nD τ)), (arg12.view.loc (c : Thread nD τ) ↦[arg12.view.set]{fullShare} g))
  step := fun k acc => by
    unfold Gen.k0_t1_body
    iintro ⟨H3, H8, H9, H10, %g, Hw⟩
    by_cases hc : k0_cond2 k = 1#1
    · sl_exec
      sl_step
      sl_close
    · sl_exec
      sl_step
      sl_close

/-- Loop 2 of the body: between trips the buffers it reads hold what they held, and its target something. -/
@[sl_loop] noncomputable def loopInv_k0_t2 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole) (k0_h3 : k0_cond3 i = 1#1)
    (f2 : Buf (Elt F) (arg2.view.loc (c : Thread nD τ))) (f8 : Buf (Elt F) (arg8.view.loc (c : Thread nD τ))) (f9 : Buf (Elt F) (arg9.view.loc (c : Thread nD τ))) (f10 : Buf (Elt F) (arg10.view.loc (c : Thread nD τ))) :
    Cert.KernelIdeal.Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 where
  inv := fun _ _ => iprop((arg2.view.loc (c : Thread nD τ) ↦[arg2.view.set]{fullShare} f2) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg13.view.loc (c : Thread nD τ)), (arg13.view.loc (c : Thread nD τ) ↦[arg13.view.set]{fullShare} g))
  step := fun k acc => by
    unfold Gen.k0_t2_body
    iintro ⟨H2, H8, H9, H10, %g, Hw⟩
    by_cases hc : k0_cond4 k = 1#1
    · sl_exec
      sl_step
      sl_close
    · sl_exec
      sl_step
      sl_close

/-- Loop 3 of the body: between trips the buffers it reads hold what they held, and its target something. -/
@[sl_loop] noncomputable def loopInv_k0_t3 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole) (k0_h3 : k0_cond3 i = 1#1) (v25 : FVec F S8x128 .f32) (v28 : IVec S1x128 1) (v53 : IVec S256x128 32) (v79 : IVec S256x128 32) (v83 : IVec S256x128 1) (v93 : FVec F S256x256 .f32) (v130 : FVec F S1x128 .f32) (v131 : FVec F S256x128 .f32)
    (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ))) :
    Cert.KernelIdeal.Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 v25 v28 v53 v79 v83 v93 v130 v131 where
  inv := fun _ _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg12.view.loc (c : Thread nD τ)), (arg12.view.loc (c : Thread nD τ) ↦[arg12.view.set]{fullShare} g))
  step := fun k acc => by
    unfold Gen.k0_t3_body
    iintro ⟨H3, H8, H9, H10, %g, Hw⟩
    by_cases hc : k0_cond5 k = 1#1
    · sl_exec
      sl_step
      sl_close
    · sl_exec
      sl_step
      sl_close

end Cert.Proof.KernelIdeal

end
-- ==== Proof.KernelIdeal.Body.lean ====
/-
  The kernel body's run for the frame claim, at either kind of grid point: the six operand blocks it is given are
  kept, the result's staging buffer and the six scratch buffers end at some contents.
-/
module

public import proofs.«01_k».proof.Proof.KernelIdeal.Loops
public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The first grid point: the operand blocks are kept, the other buffers end at some contents. -/
theorem body_first (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole)
    (h1 : k0_cond1 i = 1#1) (h3 : ¬ k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (K : PUnit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))) -∗ K ⟨⟩)) : sProp 𝕄)
      ⊢ wp frame (wpE (defs₀ (F := F)) 𝒱₀ (c : Thread nD τ) none) Set.univ (cc0_vq_linear i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, ⟨%g7, H7⟩, ⟨%g8, H8⟩, ⟨%g9, H9⟩, ⟨%g10, H10⟩, ⟨%g11, H11⟩, ⟨%g12, H12⟩, ⟨%g13, H13⟩, Hk⟩
  sl_unfold [cc0_vq_linear]
  sl_exec_parts
  sl_step
  iapply Hk
  sl_close

set_option maxHeartbeats 4000000 in
/-- A later grid point: the operand blocks are kept, the other buffers end at some contents. -/
theorem body_later (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole)
    (h1 : ¬ k0_cond1 i = 1#1) (h3 : k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (K : PUnit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))) -∗ K ⟨⟩)) : sProp 𝕄)
      ⊢ wp frame (wpE (defs₀ (F := F)) 𝒱₀ (c : Thread nD τ) none) Set.univ (cc0_vq_linear i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, ⟨%g7, H7⟩, ⟨%g8, H8⟩, ⟨%g9, H9⟩, ⟨%g10, H10⟩, ⟨%g11, H11⟩, ⟨%g12, H12⟩, ⟨%g13, H13⟩, Hk⟩
  sl_unfold [cc0_vq_linear]
  sl_exec_parts
  sl_step
  iapply Hk
  sl_close

end Cert.Proof.KernelIdeal

end
-- ==== Proof.KernelIdeal.Run.lean ====
/-
  The idealized program: its frame. The pipeline's proof data leaves every operand block in place and says
  nothing of the result, the body's run (Body.lean) meets it at every grid point, and the run of the whole program
  leaves the five arguments as they were and every semaphore counter at zero.
-/
module

public import proofs.«01_k».proof.Proof.KernelIdeal.Body
public import proofs.«01_k».proof.Proof.Gen.KernelIdeal.Frame
public import proofs.«01_k».proof.Proof.Gen.KernelIdeal.Points
public import Idealize.ShloMosaic.Lib.Pipeline.FrameBody

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation BodyObligationLoose cellOf)

local notation "𝕄" => MT nD τ sig Unit (Elt F) ℕ (UR sig nD τ) ℕ

variable (m : (ℓ : Loc nD τ sig) → Buf (Elt F) ℓ) (ρ : Dev nD → PrngReg)

/-- Window 6, the result's, is the one the proof data says nothing of. -/
def fgt : Fin cfg0.W → Bool := fun w => w == (6 : Fin 7)

/-- The pipeline's proof data on core `c`: the arrays as the region finds them, every operand's block left in
    place, the scratch buffers and the PRNG register held between the points. -/
def dat (c : Dev nD) : Dat τ (Elt F) Unit ℕ (UR sig nD τ) ℕ cfg0 c where
  A := fun w => V m c (Pipeline.arrRef spec0 w)
  after := fun w => match w with
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => Dat.unnamed (6 : Fin 7) t
  Φ := fun _ => Pipeline.ΦA spec0 c
  q := Pipeline.shareOf spec0
  owed := fun _ => 0

/-- The one pipeline's proof data. -/
def dats : (p : Fin 1) → (c : Dev nD) → Dat τ (Elt F) Unit ℕ (UR sig nD τ) ℕ (cfgs p) c :=
  fun p => match p with | 0 => dat m

/-- The proof data's arrays are the ones the kernel finds. -/
theorem hA (c : Dev nD) (w : Fin cfg0.W) : (dats m 0 c).A w = V m c (Pipeline.arrRef spec0 w) := rfl

/-- Window 0's staging buffer holds its block when the body starts. -/
theorem before_0 (c : Dev nD) (t : Fin cfg0.N) (d) : (dats m 0 c).before 0 t d = iblk m c 0 t :=
  before0_0_of m (dats m 0 c) rfl (fun _ => rfl) t d

/-- Window 1's staging buffer holds its block when the body starts. -/
theorem before_1 (c : Dev nD) (t : Fin cfg0.N) (d) : (dats m 0 c).before 1 t d = iblk m c 1 t :=
  before0_1_of m (dats m 0 c) rfl (fun _ => rfl) t d

/-- Window 2's staging buffer holds its block when the body starts. -/
theorem before_2 (c : Dev nD) (t : Fin cfg0.N) (d) : (dats m 0 c).before 2 t d = iblk m c 2 t :=
  before0_2_of m (dats m 0 c) rfl (fun _ => rfl) t d

/-- Window 3's staging buffer holds its block when the body starts. -/
theorem before_3 (c : Dev nD) (t : Fin cfg0.N) (d) : (dats m 0 c).before 3 t d = iblk m c 3 t :=
  before0_3_of m (dats m 0 c) rfl (fun _ => rfl) t d

/-- Window 4's staging buffer holds its block when the body starts. -/
theorem before_4 (c : Dev nD) (t : Fin cfg0.N) (d) : (dats m 0 c).before 4 t d = iblk m c 4 t :=
  before0_4_of m (dats m 0 c) rfl (fun _ => rfl) t d

/-- Window 5's staging buffer holds its block when the body starts. -/
theorem before_5 (c : Dev nD) (t : Fin cfg0.N) (d) : (dats m 0 c).before 5 t d = iblk m c 5 t :=
  before0_5_of m (dats m 0 c) rfl (fun _ => rfl) t d

/-- A grid point is the first, which only prepares, or a later one, which only computes. -/
theorem cond_cases : ∀ t : Fin cfg0.N, (k0_cond1 (grid0.coords t) = 1#1 ∧ ¬ k0_cond3 (grid0.coords t) = 1#1)
    ∨ (¬ k0_cond1 (grid0.coords t) = 1#1 ∧ k0_cond3 (grid0.coords t) = 1#1) := by decide +kernel

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (∃ X, owns (c : Thread nD τ) (st0_6 t) fullShare X))

/-- A buffer held whole at some contents, spelt through its whole memref. -/
theorem pt_whole (c : Dev nD) (b : Ref sig .tc) :
    (iprop(∃ f : Buf (Elt F) ((c : Thread nD τ).loc b), ((c : Thread nD τ).loc b) ↦{fullShare} f) : sProp 𝕄)
      = iprop(∃ g : Buf (Elt F) ((Memref.whole b).view.loc (c : Thread nD τ)), ((Memref.whole b).view.loc (c : Thread nD τ) ↦[(Memref.whole b).view.set]{fullShare} g)) := by
  rw [show (Memref.whole b).view.set = Finset.univ from View.set_whole b]

/-- The scratch buffers, held whole at some contents, with the PRNG register. -/
theorem PhiA_eq (c : Dev nD) : (Pipeline.ΦA spec0 c : sProp 𝕄) = iprop(((∃ g : Buf (Elt F) ((Memref.whole cc0_scratch0).view.loc (c : Thread nD τ)), ((Memref.whole cc0_scratch0).view.loc (c : Thread nD τ) ↦[(Memref.whole cc0_scratch0).view.set]{fullShare} g)) ∗ (∃ g : Buf (Elt F) ((Memref.whole cc0_scratch1).view.loc (c : Thread nD τ)), ((Memref.whole cc0_scratch1).view.loc (c : Thread nD τ) ↦[(Memref.whole cc0_scratch1).view.set]{fullShare} g)) ∗ (∃ g : Buf (Elt F) ((Memref.whole cc0_scratch2).view.loc (c : Thread nD τ)), ((Memref.whole cc0_scratch2).view.loc (c : Thread nD τ) ↦[(Memref.whole cc0_scratch2).view.set]{fullShare} g)) ∗ (∃ g : Buf (Elt F) ((Memref.whole cc0_scratch3).view.loc (c : Thread nD τ)), ((Memref.whole cc0_scratch3).view.loc (c : Thread nD τ) ↦[(Memref.whole cc0_scratch3).view.set]{fullShare} g)) ∗ (∃ g : Buf (Elt F) ((Memref.whole cc0_scratch4).view.loc (c : Thread nD τ)), ((Memref.whole cc0_scratch4).view.loc (c : Thread nD τ) ↦[(Memref.whole cc0_scratch4).view.set]{fullShare} g)) ∗ (∃ g : Buf (Elt F) ((Memref.whole cc0_scratch5).view.loc (c : Thread nD τ)), ((Memref.whole cc0_scratch5).view.loc (c : Thread nD τ) ↦[(Memref.whole cc0_scratch5).view.set]{fullShare} g))) ∗ ∃ r, prngReg c r) := by
  unfold Pipeline.ΦA
  rw [scopedRest0_eq]
  exact congrArg₂ _ (congrArg₂ _ (pt_whole c cc0_scratch0) (congrArg₂ _ (pt_whole c cc0_scratch1) (congrArg₂ _ (pt_whole c cc0_scratch2) (congrArg₂ _ (pt_whole c cc0_scratch3) (congrArg₂ _ (pt_whole c cc0_scratch4) (pt_whole c cc0_scratch5)))))) rfl

set_option maxHeartbeats 1000000 in
/-- The body at any point meets its obligation. -/
theorem sound_body (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4, before_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [PhiA_eq]
  unfold owns
  iintro ⟨⟨⟨S0, S1, S2, S3, S4, S5⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%X, %f6, -, H6⟩⟩
  rcases cond_cases t with ⟨h1, h3⟩ | ⟨h1, h3⟩
  · iapply (body_first c _ _ _ _ _ _ _ _ _ _ _ _ _ _ _ _ _ _ _ _ _ _ _ _ _ _ _ h1 h3 f0 f1 f2 f3 f4 f5 _)
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, ⟨%g6, H6⟩, S0, S1, S2, S3, S4, S5⟩
    isplitl [S0 S1 S2 S3 S4 S5 Hr]
    · isplitr [Hr]
      swap; · iexact Hr
      isplitl [S0]; · iexact S0
      isplitl [S1]; · iexact S1
      isplitl [S2]; · iexact S2
      isplitl [S3]; · iexact S3
      isplitl [S4]; · iexact S4
      iexact S5
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    iexists _; iexists g6; isplitr
    swap; · iexact H6
    ipureintro; rfl
  · iapply (body_later c _ _ _ _ _ _ _ _ _ _ _ _ _ _ _ _ _ _ _ _ _ _ _ _ _ _ _ h1 h3 f0 f1 f2 f3 f4 f5 _)
    isplitl [H0]; · iexact H0
    isplitl [H1]; · iexact H1
    isplitl [H2]; · iexact H2
    isplitl [H3]; · iexact H3
    isplitl [H4]; · iexact H4
    isplitl [H5]; · iexact H5
    isplitl [H6]; · iexists f6; iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, ⟨%g6, H6⟩, S0, S1, S2, S3, S4, S5⟩
    isplitl [S0 S1 S2 S3 S4 S5 Hr]
    · isplitr [Hr]
      swap; · iexact Hr
      isplitl [S0]; · iexact S0
      isplitl [S1]; · iexact S1
      isplitl [S2]; · iexact S2
      isplitl [S3]; · iexact S3
      isplitl [S4]; · iexact S4
      iexact S5
    isplitl [Ho]; · iexact Ho
    isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    iexists _; iexists g6; isplitr
    swap; · iexact H6
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point, window 6 forgotten. -/
theorem body_obligation (c : Dev nD) : BodyObligationLoose (dats (F := F) m 0 c) (defs₀ (F := F)) 𝒱₀ () Set.univ fgt := fun t => by
  rw [bigSep_W0, bigSep_W0, defs₀_row]
  exact triple_restated (sound_body m c t) rfl .rfl fun _ => .rfl

set_option backward.isDefEq.respectTransparency.types false in
set_option maxHeartbeats 800000 in
/-- The run: every weakly fair execution of the program terminates, the arrays as the proof data says and every
    semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ 𝒱₀ fgt m ρ main
    (hbody := body_obligation m) (hq := fun _ _ _ => rfl) (howed := fun _ _ => rfl) (V := V m)
    (hmain := hmain m 𝒱₀) (hA := hA m) (hΦ := fun _ _ => rfl)

/-- The frame claim: every execution terminates, the five arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨((h.1 c).2 main_arg0 (Pipeline.mem_restRefs_of main_arg0 (by decide) (by decide))).trans (V_main_arg0 m c),
      (Pipeline.RDat.FramePost.arr_in h.1 c 2 rfl).trans ((hA m c 2).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Proof.KernelIdeal

end
-- ==== Proof.Value.Spec.lean ====
/-
  The layer's mathematics, entry by entry: what both the kernel and the reference compute.
-/
module

public import Idealize.ShloMosaic.Lib.ValueIdx
public import Idealize.ShloMosaic.Lib.Pipeline.ValueKit

@[expose] public section

noncomputable section

namespace Cert.Proof.Value

open Idealize.ShloMosaic

/-- Entry `(r, n)` of the layer's result: row `r` of the input times column `n` of the weights, times the column's output
    scale. The weight at `(k, n)` is the entry that index `(k, n / 2)` names in the codebook of row `k`'s block of 256 rows,
    at the column's parity, times that block's scale. -/
def spec (x : FVec Ideal ⟨3, ![1, 256, 1024]⟩ .bf16) (idx : IVec ⟨2, ![1024, 13312]⟩ 8) (cb : IVec ⟨3, ![4, 256, 2]⟩ 8)
    (cs : FVec Ideal ⟨1, ![4]⟩ .bf16) (os : FVec Ideal ⟨1, ![26624]⟩ .f32) (r : Fin 256) (n : Fin 26624) : EReal :=
  (∑ k : Fin 1024, (x (ix3 (0 : Fin 1) r k) : EReal)
      * ((FloatOps.sitofp (F := Ideal) .bf16
            (cb (ix3 ⟨k.val / 256, by omega⟩ ⟨(idx (ix2 k ⟨n.val / 2, by omega⟩)).toNat, (idx (ix2 k ⟨n.val / 2, by omega⟩)).isLt⟩
              ⟨n.val % 2, by omega⟩)) : EReal)
          * cs (ix1 ⟨k.val / 256, by omega⟩)))
    * os (ix1 n)

/-- The whole result. -/
def specArr (x : FVec Ideal ⟨3, ![1, 256, 1024]⟩ .bf16) (idx : IVec ⟨2, ![1024, 13312]⟩ 8) (cb : IVec ⟨3, ![4, 256, 2]⟩ 8)
    (cs : FVec Ideal ⟨1, ![4]⟩ .bf16) (os : FVec Ideal ⟨1, ![26624]⟩ .f32) : FVec Ideal ⟨2, ![256, 26624]⟩ .bf16 :=
  fun i => spec x idx cb cs os (i 0) (i 1)

end Cert.Proof.Value

end
-- ==== Proof.Value.Lookup.lean ====
/-
  The kernel's lookup of one tile of weights, read at an element: either way of looking a byte up, through the lanes
  of a row table or through the rows of a column table, gives the codebook's entry at that byte.
-/
module

public import proofs.«01_k».proof.Proof.Gen.KernelIdeal.Skeleton
public import Idealize.ShloMosaic.Lib.Pointwise

@[expose] public section

set_option maxRecDepth 16384

noncomputable section

namespace Cert.Proof.Value

open Cert.KernelIdeal Cert.KernelIdeal.Gen
open Idealize.ShloMosaic

variable {F : FTy → Type} [FloatOps F]

/-- what holds of the 256 bytes one by one holds of every byte -/
theorem byte_all (P : BitVec 8 → Prop) (h : ∀ n < 256, P (BitVec.ofNat 8 n)) (q : BitVec 8) : P q := by
  have := h q.toNat q.isLt
  simpa using this

/-- the lower seven bits of an index -/
theorem lane_of (q : BitVec 8) : (BitVec.signExtend 32 (IntOp.andi q 127#8)).toNat % 128 = q.toNat % 128 :=
  byte_all (fun q => (BitVec.signExtend 32 (IntOp.andi q 127#8)).toNat % 128 = q.toNat % 128) (by decide +kernel) q

/-- the lower five bits of an index -/
theorem row_of (q : BitVec 8) : (BitVec.signExtend 32 (IntOp.andi q 31#8)).toNat % 32 = q.toNat % 32 :=
  byte_all (fun q => (BitVec.signExtend 32 (IntOp.andi q 31#8)).toNat % 32 = q.toNat % 32) (by decide +kernel) q

/-- the test of the bit of weight 32 -/
theorem bit32 (q : BitVec 8) : IntOp.cmpi CmpIPredicate.ne (IntOp.andi q 32#8) 0#8 = if q.toNat / 32 % 2 = 1 then 1#1 else 0#1 :=
  byte_all (fun q => IntOp.cmpi CmpIPredicate.ne (IntOp.andi q 32#8) 0#8 = if q.toNat / 32 % 2 = 1 then 1#1 else 0#1) (by decide +kernel) q
/-- the test of the bit of weight 64 -/
theorem bit64 (q : BitVec 8) : IntOp.cmpi CmpIPredicate.ne (IntOp.andi q 64#8) 0#8 = if q.toNat / 64 % 2 = 1 then 1#1 else 0#1 :=
  byte_all (fun q => IntOp.cmpi CmpIPredicate.ne (IntOp.andi q 64#8) 0#8 = if q.toNat / 64 % 2 = 1 then 1#1 else 0#1) (by decide +kernel) q
/-- the test of the bit of weight 128 -/
theorem bit128 (q : BitVec 8) : IntOp.cmpi CmpIPredicate.ne (IntOp.andi q 128#8) 0#8 = if q.toNat / 128 = 1 then 1#1 else 0#1 :=
  byte_all (fun q => IntOp.cmpi CmpIPredicate.ne (IntOp.andi q 128#8) 0#8 = if q.toNat / 128 = 1 then 1#1 else 0#1) (by decide +kernel) q

/-- widening a byte to a word and cutting it back changes nothing -/
theorem word_byte (b : BitVec 8) : BitVec.setWidth 8 (BitVec.signExtend 32 b) = b :=
  byte_all (fun b => BitVec.setWidth 8 (BitVec.signExtend 32 b) = b) (by decide +kernel) b

/-- a select whose condition is a decided one -/
theorem select_if {α : Type} (c : Prop) [Decidable c] (a b : α) : Scalar.select (if c then 1#1 else 0#1) a b = if c then a else b := by
  by_cases h : c <;> simp [h, Scalar.select]

/-- the eight-way choice by the index's three upper bits, each piece read at its five lower ones -/
theorem pick8 {α : Type} (q : BitVec 8) (C : ℕ → α) (r : ℕ) (hr : r = q.toNat % 32) :
    (if q.toNat / 128 = 1 then
      (if q.toNat / 64 % 2 = 1 then (if q.toNat / 32 % 2 = 1 then C (224 + r) else C (192 + r))
        else (if q.toNat / 32 % 2 = 1 then C (160 + r) else C (128 + r)))
      else (if q.toNat / 64 % 2 = 1 then (if q.toNat / 32 % 2 = 1 then C (96 + r) else C (64 + r))
        else (if q.toNat / 32 % 2 = 1 then C (32 + r) else C r))) = C q.toNat := by
  have hq := q.isLt
  split_ifs <;> congr 1 <;> omega

/-- What a trip stores, at an element: the looked-up byte as a number times the block's scale. -/
theorem store_apply (S : Vec F S1x32x128 .bf16) (v : IVec S32x128 8) (x : S1x16x2x128.Idx) (h1 : 2 * (x 1).val + (x 2).val < 32) :
    k0_pay192 S v x = FloatOps.mulf (FloatOps.sitofp .bf16 (v (ix2 ⟨2 * (x 1).val + (x 2).val, h1⟩ (x 3)))) (S (ix3 0 ⟨2 * (x 1).val + (x 2).val, h1⟩ (x 3))) := by
  unfold k0_pay192 k0_pay189
  pointwise
  have h2 : (x 2).val < 2 := (x 2).isLt
  obtain h | h : (x 2).val = 0 ∨ (x 2).val = 1 := by omega
  · simp [h]
  · simp [h]

/-- The lookup through the lanes of a row table gives the entry at the byte. -/
theorem lanes_apply (T0 T1 : Vec F S1x1x1x32x128 .i8) (q : IVec S32x128 8) (C : ℕ → BitVec 8) (h0 : ∀ y, T0 y = C (y 4).val) (h1 : ∀ y, T1 y = C (128 + (y 4).val)) (j : S32x128.Idx) :
    k0_pay6 q T0 T1 j = C (q j).toNat := by
  unfold k0_pay6 k0_pay5 k0_pay4
  pointwise
  rw [word_byte, word_byte, bit128, select_if, h0, h1]
  have hq := (q j).isLt
  split
  · congr 1
    show 128 + _ % 128 = _
    rw [lane_of]; omega
  · congr 1
    show _ % 128 = _
    rw [lane_of]; omega

/-- The eight-way lookup through the rows of a column table. -/
def sub8 (q : Vec F S32x128 .i8) (T0 T1 T2 T3 T4 T5 T6 T7 : Vec F S1x1x1x32x128 .i8) : IVec S32x128 8 :=
  k0_pay17 (k0_pay10 q) (k0_pay11 q) (k0_pay12 q) (k0_pay13 q) (k0_pay14 q T0) (k0_pay15 q T1) (k0_pay16 q T2) T3 T4 T5 T6 T7

/-- The lookup through the rows of a column table gives the entry at the byte. -/
theorem sublanes_apply (T0 T1 T2 T3 T4 T5 T6 T7 : Vec F S1x1x1x32x128 .i8) (q : Vec F S32x128 .i8) (C : ℕ → BitVec 8)
    (h0 : ∀ y, T0 y = C (y 3).val) (h1 : ∀ y, T1 y = C (32 + (y 3).val)) (h2 : ∀ y, T2 y = C (64 + (y 3).val))
    (h3 : ∀ y, T3 y = C (96 + (y 3).val)) (h4 : ∀ y, T4 y = C (128 + (y 3).val)) (h5 : ∀ y, T5 y = C (160 + (y 3).val))
    (h6 : ∀ y, T6 y = C (192 + (y 3).val)) (h7 : ∀ y, T7 y = C (224 + (y 3).val)) (j : S32x128.Idx) :
    sub8 q T0 T1 T2 T3 T4 T5 T6 T7 j = C (q j).toNat := by
  unfold sub8 k0_pay17 k0_pay11 k0_pay12 k0_pay13 k0_pay14 k0_pay15 k0_pay16 k0_pay10
  pointwise
  simp only [bit128, bit32, bit64, select_if, h0, h1, h2, h3, h4, h5, h6, h7]
  exact pick8 (q j) C _ (row_of (q j))

/-- The looked-up weights of one block of indices: the codebook `C` (pair position, block, entry) at the index, times
    the block's scale. -/
def wval (C : ℕ → ℕ → ℕ → BitVec 8) (sc : ℕ → F .bf16) (idx : Vec F S1024x256 .i8) : Vec F S2x512x2x256 .bf16 := fun y =>
  FloatOps.mulf (FloatOps.sitofp .bf16 (C (y 0).val ((y 1).val / 128)
    (idx (ix2 ⟨2 * (y 1).val + (y 2).val, by have h1 : (y 1).val < 512 := (y 1).isLt; have h2 : (y 2).val < 2 := (y 2).isLt; omega⟩ (y 3))).toNat)) (sc ((y 1).val / 128))

/-- The weights of the tiles before tile `k` are in place. -/
def Done (C : ℕ → ℕ → ℕ → BitVec 8) (sc : ℕ → F .bf16) (idx : Vec F S1024x256 .i8) (k : ℕ) (w : Vec F S2x512x2x256 .bf16) : Prop :=
  ∀ y : S2x512x2x256.Idx, (y 1).val / 16 * 2 + (y 3).val / 128 < k → w y = wval C sc idx y

/-- Before the first tile nothing need be in place. -/
theorem Done.zero (C : ℕ → ℕ → ℕ → BitVec 8) (sc : ℕ → F .bf16) (idx : Vec F S1024x256 .i8) (w : Vec F S2x512x2x256 .bf16) : Done C sc idx 0 w :=
  fun _ h => absurd h (Nat.not_lt_zero _)

/-- After the sixty-four tiles every weight is in place. -/
theorem Done.all {C : ℕ → ℕ → ℕ → BitVec 8} {sc : ℕ → F .bf16} {idx : Vec F S1024x256 .i8} {w : Vec F S2x512x2x256 .bf16}
    (h : Done C sc idx 64 w) : w = wval C sc idx := by
  funext y
  have b1 : (y 1).val < 512 := (y 1).isLt
  have b3 : (y 3).val < 256 := (y 3).isLt
  exact h y (by omega)

/-- A trip that stores the weights of tile `k` leaves the tiles up to `k` in place. -/
theorem step_done (C : ℕ → ℕ → ℕ → BitVec 8) (sc : ℕ → F .bf16) (idx : Vec F S1024x256 .i8) (k : ℕ)
    {arg : Memref sig .tc .vmem S2x512x2x256 .bf16} (g : arg.view.ty.Contents (Elt F)) {o0 o1 : Fin 4 → ℕ}
    (e0 : o0 = ![0, 16 * (k / 2), 0, 128 * (k % 2)]) (e1 : o1 = ![1, 16 * (k / 2), 0, 128 * (k % 2)])
    (i0 : ∀ a, o0 a + S1x16x2x128.size a ≤ S2x512x2x256.size a) (i1 : ∀ a, o1 a + S1x16x2x128.size a ≤ S2x512x2x256.size a)
    {P0 P1 : Vec F S1x16x2x128 .bf16} (hg : Done C sc idx k (arg.view.read (Elt F) g))
    (h0 : ∀ x, P0 x = wval C sc idx ((Rect.unit (s := S2x512x2x256) o0 S1x16x2x128.size i0).emb x))
    (h1 : ∀ x, P1 x = wval C sc idx ((Rect.unit (s := S2x512x2x256) o1 S1x16x2x128.size i1).emb x)) :
    Done C sc idx (k + 1) (arg.view.read (Elt F) (arg.view.writes (Elt F) g
      [⟨Rect.unit o1 S1x16x2x128.size i1, P1⟩, ⟨Rect.unit o0 S1x16x2x128.size i0, P0⟩])) := by
  subst e0 e1
  intro y hy
  have b0 : (y 0).val < 2 := (y 0).isLt
  have b1 : (y 1).val < 512 := (y 1).isLt
  have b2 : (y 2).val < 2 := (y 2).isLt
  have b3 : (y 3).val < 256 := (y 3).isLt
  by_cases hk : (y 1).val / 16 * 2 + (y 3).val / 128 = k
  · refine View.read_writes_apply_of_pieces _ _ (wval C sc idx) _ ?_ y ?_
    · intro p hp x
      simp only [List.mem_cons, List.not_mem_nil, or_false] at hp
      rcases hp with rfl | rfl
      · exact h1 x
      · exact h0 x
    · obtain h | h : (y 0).val = 0 ∨ (y 0).val = 1 := by omega
      · refine ⟨_, List.mem_cons_of_mem _ List.mem_cons_self, ?_⟩
        rw [Rect.mem_set_unit]
        intro a; fin_cases a <;> simp <;> omega
      · refine ⟨_, List.mem_cons_self, ?_⟩
        rw [Rect.mem_set_unit]
        intro a; fin_cases a <;> simp <;> omega
  · rw [View.read_writes_apply_of_forall_not_mem]
    · exact hg y (by omega)
    · intro p hp hm
      apply hk
      simp only [List.mem_cons, List.not_mem_nil, or_false] at hp
      rcases hp with rfl | rfl
      all_goals
        rw [Rect.mem_set_unit] at hm
        have m1 := hm 1
        have m3 := hm 3
        simp at m1 m3
        omega

/-! ### The boxes a trip loads -/

/-- What the row tables hold. -/
def TabX (C : ℕ → ℕ → ℕ → BitVec 8) (T : Vec F S4x2x2x32x128 .i8) : Prop := ∀ y, T y = C (y 1).val (y 0).val (128 * (y 2).val + (y 4).val)
/-- What the column tables hold. -/
def TabV (C : ℕ → ℕ → ℕ → BitVec 8) (T : Vec F S4x2x8x32x128 .i8) : Prop := ∀ y, T y = C (y 1).val (y 0).val (32 * (y 2).val + (y 3).val)
/-- What the scale tables hold. -/
def Scl (sc : ℕ → F .bf16) (T : Vec F S4x32x128 .bf16) : Prop := ∀ y, T y = sc (y 0).val

/-- What the three tables together hold. -/
def Tabs (C : ℕ → ℕ → ℕ → BitVec 8) (sc : ℕ → F .bf16) (T : Vec F S4x2x2x32x128 .i8) (U : Vec F S4x2x8x32x128 .i8) (S : Vec F S4x32x128 .bf16) : Prop :=
  TabX (F := F) C T ∧ TabV (F := F) C U ∧ Scl sc S

/-- a box of the row tables -/
theorem TabX.box {C : ℕ → ℕ → ℕ → BitVec 8} {arg : Memref sig .tc .vmem S4x2x2x32x128 .i8} {f : arg.view.ty.Contents (Elt F)}
    (h : TabX C (arg.view.read (Elt F) f)) {o : Fin 5 → ℕ} {b p t : ℕ} (e : o = ![b, p, t, 0, 0])
    (i : ∀ a, o a + S1x1x1x32x128.size a ≤ S4x2x2x32x128.size a) (y : S1x1x1x32x128.Idx) :
    View.readAt (Elt F) arg.view (Rect.unit (s := S4x2x2x32x128) o S1x1x1x32x128.size i).toLoadRect f y = C p b (128 * t + (y 4).val) := by
  subst e
  refine (h _).trans ?_
  have y0 : (y 0).val < 1 := (y 0).isLt
  have y1 : (y 1).val < 1 := (y 1).isLt
  have y2 : (y 2).val < 1 := (y 2).isLt
  show C (p + 1 * (y 1).val) (b + 1 * (y 0).val) (128 * (t + 1 * (y 2).val) + (0 + 1 * (y 4).val)) = _
  congr 1 <;> omega

/-- a box of the column tables -/
theorem TabV.box {C : ℕ → ℕ → ℕ → BitVec 8} {arg : Memref sig .tc .vmem S4x2x8x32x128 .i8} {f : arg.view.ty.Contents (Elt F)}
    (h : TabV C (arg.view.read (Elt F) f)) {o : Fin 5 → ℕ} {b p t : ℕ} (e : o = ![b, p, t, 0, 0])
    (i : ∀ a, o a + S1x1x1x32x128.size a ≤ S4x2x8x32x128.size a) (y : S1x1x1x32x128.Idx) :
    View.readAt (Elt F) arg.view (Rect.unit (s := S4x2x8x32x128) o S1x1x1x32x128.size i).toLoadRect f y = C p b (32 * t + (y 3).val) := by
  subst e
  refine (h _).trans ?_
  have y0 : (y 0).val < 1 := (y 0).isLt
  have y1 : (y 1).val < 1 := (y 1).isLt
  have y2 : (y 2).val < 1 := (y 2).isLt
  show C (p + 1 * (y 1).val) (b + 1 * (y 0).val) (32 * (t + 1 * (y 2).val) + (0 + 1 * (y 3).val)) = _
  congr 1 <;> omega

/-- a box of the scale tables -/
theorem Scl.box {sc : ℕ → F .bf16} {arg : Memref sig .tc .vmem S4x32x128 .bf16} {f : arg.view.ty.Contents (Elt F)}
    (h : Scl sc (arg.view.read (Elt F) f)) {o : Fin 3 → ℕ} {b : ℕ} (e : o = ![b, 0, 0])
    (i : ∀ a, o a + S1x32x128.size a ≤ S4x32x128.size a) (y : S1x32x128.Idx) :
    View.readAt (Elt F) arg.view (Rect.unit (s := S4x32x128) o S1x32x128.size i).toLoadRect f y = sc b := by
  subst e
  refine (h _).trans ?_
  have y0 : (y 0).val < 1 := (y 0).isLt
  show sc (b + 1 * (y 0).val) = _
  congr 1; omega

/-- What a trip stores is the tile's weights, once the looked-up bytes are the codebook's entries. -/
theorem piece {C : ℕ → ℕ → ℕ → BitVec 8} {sc : ℕ → F .bf16} {arg : Memref sig .tc .vmem S1024x256 .i8} {f : arg.view.ty.Contents (Elt F)}
    {k p : ℕ} {o : Fin 4 → ℕ} {oq : Fin 2 → ℕ} (e : o = ![p, 16 * (k / 2), 0, 128 * (k % 2)]) (eq : oq = ![32 * (k / 2), 128 * (k % 2)])
    (i : ∀ a, o a + S1x16x2x128.size a ≤ S2x512x2x256.size a) (iq : ∀ a, oq a + S32x128.size a ≤ S1024x256.size a)
    {S : Vec F S1x32x128 .bf16} (hS : ∀ y, S y = sc (k / 16)) {v : IVec S32x128 8}
    (hv : ∀ j, v j = C p (k / 16) (View.readAt (Elt F) arg.view (Rect.unit (s := S1024x256) oq S32x128.size iq).toLoadRect f j).toNat)
    (x : S1x16x2x128.Idx) :
    k0_pay192 S v x = wval C sc (arg.view.read (Elt F) f) ((Rect.unit (s := S2x512x2x256) o S1x16x2x128.size i).emb x) := by
  subst e eq
  have x0 : (x 0).val < 1 := (x 0).isLt
  have x1 : (x 1).val < 16 := (x 1).isLt
  have x2 : (x 2).val < 2 := (x 2).isLt
  have x3 : (x 3).val < 128 := (x 3).isLt
  rw [store_apply S v x (by omega), hS, hv]
  unfold wval
  have hk : (16 * (k / 2) + 1 * (x 1).val) / 128 = k / 16 := by omega
  have hp : p + 1 * (x 0).val = p := by omega
  show _ = FloatOps.mulf (FloatOps.sitofp .bf16 (C (p + 1 * (x 0).val) ((16 * (k / 2) + 1 * (x 1).val) / 128) _)) (sc ((16 * (k / 2) + 1 * (x 1).val) / 128))
  rw [hk, hp]
  congr 4
  show arg.view.read (Elt F) f _ = arg.view.read (Elt F) f _
  congr 1
  funext a
  apply Fin.ext
  fin_cases a
  · show 32 * (k / 2) + 1 * (2 * (x 1).val + (x 2).val) = 2 * (16 * (k / 2) + 1 * (x 1).val) + (0 + 1 * (x 2).val)
    omega
  · show 128 * (k % 2) + 1 * (x 3).val = 128 * (k % 2) + 1 * (x 3).val
    rfl

end Cert.Proof.Value

end
-- ==== Proof.Value.Loops.lean ====
/-
  The three counted loops of the kernel, for the value claim: a trip of the weights' lookup keeps every buffer it
  reads and puts the weights of one more tile in place.
-/
module

public import proofs.«01_k».proof.Proof.Gen.KernelIdeal.Frame
public import proofs.«01_k».proof.Proof.Gen.KernelIdeal.Loops
public import proofs.«01_k».proof.Proof.Value.Lookup
public import Idealize.ShloMosaic.Lib.Tactic.Stretches

@[expose] public section

set_option maxRecDepth 16384

noncomputable section

namespace Cert.Proof.Value

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The certificate's user algebra: the frame kit's. -/
abbrev UU (nD : Nat) (τ : Topo) : Type := UR sig nD τ
/-- The certificate declares no variants. -/
abbrev 𝒱₀ : Variants := Variants.none

local notation "𝕄" => MT nD τ sig Unit (Elt F) ℕ (UR sig nD τ) ℕ

/-- Loop 1 of the body: between trips the buffers it reads hold what they held, and its target the weights of
    the tiles done. -/
@[sl_loop, instance_reducible] noncomputable def loopInv_k0_t1 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole) (k0_h1 : k0_cond1 i = 1#1)
    (C : ℕ → ℕ → ℕ → BitVec 8) (sc : ℕ → F .bf16) (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (hT : Tabs C sc (arg8.view.read (Elt F) f8) (arg9.view.read (Elt F) f9) (arg10.view.read (Elt F) f10)) :
    Cert.KernelIdeal.Gen.LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h1 where
  inv := fun k _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg12.view.loc (c : Thread nD τ)), ⌜Done C sc (arg3.view.read (Elt F) f3) k (arg12.view.read (Elt F) g)⌝ ∗ (arg12.view.loc (c : Thread nD τ) ↦[arg12.view.set]{fullShare} g))
  step := fun k acc => by
    obtain ⟨hX, hV, hS⟩ := hT
    unfold Gen.k0_t1_body
    iintro ⟨H3, H8, H9, H10, %g, %hg, Hw⟩
    by_cases hc : k0_cond2 k = 1#1
    · sl_exec
      sl_step
      isplitl [H3]; · iexact H3
      isplitl [H8]; · iexact H8
      isplitl [H9]; · iexact H9
      isplitl [H10]; · iexact H10
      iexists _
      isplitr
      swap; · iexact Hw
      ipureintro
      refine step_done C sc _ k.val g (Gen.k0_off23_eq k) (Gen.k0_off24_eq k) _ _ hg ?_ ?_
      · intro x
        sl_open_run
        exact piece (k := k.val) (Gen.k0_off23_eq k) (Gen.k0_off2_eq k) _ _ (fun y => hS.box (Gen.k0_off1_eq k) _ y) (lanes_apply _ _ _ (C 0 (k.val / 16)) (fun y => (hX.box (Gen.k0_off3_eq k) _ y).trans (by rw [Nat.mul_zero, Nat.zero_add])) (fun y => hX.box (Gen.k0_off4_eq k) _ y)) x
      · intro x
        sl_open_run
        exact piece (k := k.val) (Gen.k0_off24_eq k) (Gen.k0_off2_eq k) _ _ (fun y => hS.box (Gen.k0_off1_eq k) _ y) (lanes_apply _ _ _ (C 1 (k.val / 16)) (fun y => (hX.box (Gen.k0_off5_eq k) _ y).trans (by rw [Nat.mul_zero, Nat.zero_add])) (fun y => hX.box (Gen.k0_off6_eq k) _ y)) x
    · sl_exec
      sl_step
      isplitl [H3]; · iexact H3
      isplitl [H8]; · iexact H8
      isplitl [H9]; · iexact H9
      isplitl [H10]; · iexact H10
      iexists _
      isplitr
      swap; · iexact Hw
      ipureintro
      refine step_done C sc _ k.val g (Gen.k0_off23_eq k) (Gen.k0_off24_eq k) _ _ hg ?_ ?_
      · intro x
        sl_open_run
        exact piece (k := k.val) (Gen.k0_off23_eq k) (Gen.k0_off2_eq k) _ _ (fun y => hS.box (Gen.k0_off1_eq k) _ y) (sublanes_apply _ _ _ _ _ _ _ _ _ (C 0 (k.val / 16)) (fun y => (hV.box (Gen.k0_off7_eq k) _ y).trans (by rw [Nat.mul_zero, Nat.zero_add])) (fun y => hV.box (Gen.k0_off8_eq k) _ y) (fun y => hV.box (Gen.k0_off9_eq k) _ y) (fun y => hV.box (Gen.k0_off10_eq k) _ y) (fun y => hV.box (Gen.k0_off11_eq k) _ y) (fun y => hV.box (Gen.k0_off12_eq k) _ y) (fun y => hV.box (Gen.k0_off13_eq k) _ y) (fun y => hV.box (Gen.k0_off14_eq k) _ y)) x
      · intro x
        sl_open_run
        exact piece (k := k.val) (Gen.k0_off24_eq k) (Gen.k0_off2_eq k) _ _ (fun y => hS.box (Gen.k0_off1_eq k) _ y) (sublanes_apply _ _ _ _ _ _ _ _ _ (C 1 (k.val / 16)) (fun y => (hV.box (Gen.k0_off15_eq k) _ y).trans (by rw [Nat.mul_zero, Nat.zero_add])) (fun y => hV.box (Gen.k0_off16_eq k) _ y) (fun y => hV.box (Gen.k0_off17_eq k) _ y) (fun y => hV.box (Gen.k0_off18_eq k) _ y) (fun y => hV.box (Gen.k0_off19_eq k) _ y) (fun y => hV.box (Gen.k0_off20_eq k) _ y) (fun y => hV.box (Gen.k0_off21_eq k) _ y) (fun y => hV.box (Gen.k0_off22_eq k) _ y)) x

/-- Loop 2 of the body: between trips the buffers it reads hold what they held, and its target the weights of
    the tiles done. -/
@[sl_loop, instance_reducible] noncomputable def loopInv_k0_t2 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole) (k0_h3 : k0_cond3 i = 1#1)
    (C : ℕ → ℕ → ℕ → BitVec 8) (sc : ℕ → F .bf16) (f2 : Buf (Elt F) (arg2.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (hT : Tabs C sc (arg8.view.read (Elt F) f8) (arg9.view.read (Elt F) f9) (arg10.view.read (Elt F) f10)) :
    Cert.KernelIdeal.Gen.LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 where
  inv := fun k _ => iprop((arg2.view.loc (c : Thread nD τ) ↦[arg2.view.set]{fullShare} f2) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg13.view.loc (c : Thread nD τ)), ⌜Done C sc (arg2.view.read (Elt F) f2) k (arg13.view.read (Elt F) g)⌝ ∗ (arg13.view.loc (c : Thread nD τ) ↦[arg13.view.set]{fullShare} g))
  step := fun k acc => by
    obtain ⟨hX, hV, hS⟩ := hT
    unfold Gen.k0_t2_body
    iintro ⟨H2, H8, H9, H10, %g, %hg, Hw⟩
    by_cases hc : k0_cond4 k = 1#1
    · sl_exec
      sl_step
      isplitl [H2]; · iexact H2
      isplitl [H8]; · iexact H8
      isplitl [H9]; · iexact H9
      isplitl [H10]; · iexact H10
      iexists _
      isplitr
      swap; · iexact Hw
      ipureintro
      refine step_done C sc _ k.val g (Gen.k0_off47_eq k) (Gen.k0_off48_eq k) _ _ hg ?_ ?_
      · intro x
        sl_open_run
        exact piece (k := k.val) (Gen.k0_off47_eq k) (Gen.k0_off26_eq k) _ _ (fun y => hS.box (Gen.k0_off25_eq k) _ y) (lanes_apply _ _ _ (C 0 (k.val / 16)) (fun y => (hX.box (Gen.k0_off27_eq k) _ y).trans (by rw [Nat.mul_zero, Nat.zero_add])) (fun y => hX.box (Gen.k0_off28_eq k) _ y)) x
      · intro x
        sl_open_run
        exact piece (k := k.val) (Gen.k0_off48_eq k) (Gen.k0_off26_eq k) _ _ (fun y => hS.box (Gen.k0_off25_eq k) _ y) (lanes_apply _ _ _ (C 1 (k.val / 16)) (fun y => (hX.box (Gen.k0_off29_eq k) _ y).trans (by rw [Nat.mul_zero, Nat.zero_add])) (fun y => hX.box (Gen.k0_off30_eq k) _ y)) x
    · sl_exec
      sl_step
      isplitl [H2]; · iexact H2
      isplitl [H8]; · iexact H8
      isplitl [H9]; · iexact H9
      isplitl [H10]; · iexact H10
      iexists _
      isplitr
      swap; · iexact Hw
      ipureintro
      refine step_done C sc _ k.val g (Gen.k0_off47_eq k) (Gen.k0_off48_eq k) _ _ hg ?_ ?_
      · intro x
        sl_open_run
        exact piece (k := k.val) (Gen.k0_off47_eq k) (Gen.k0_off26_eq k) _ _ (fun y => hS.box (Gen.k0_off25_eq k) _ y) (sublanes_apply _ _ _ _ _ _ _ _ _ (C 0 (k.val / 16)) (fun y => (hV.box (Gen.k0_off31_eq k) _ y).trans (by rw [Nat.mul_zero, Nat.zero_add])) (fun y => hV.box (Gen.k0_off32_eq k) _ y) (fun y => hV.box (Gen.k0_off33_eq k) _ y) (fun y => hV.box (Gen.k0_off34_eq k) _ y) (fun y => hV.box (Gen.k0_off35_eq k) _ y) (fun y => hV.box (Gen.k0_off36_eq k) _ y) (fun y => hV.box (Gen.k0_off37_eq k) _ y) (fun y => hV.box (Gen.k0_off38_eq k) _ y)) x
      · intro x
        sl_open_run
        exact piece (k := k.val) (Gen.k0_off48_eq k) (Gen.k0_off26_eq k) _ _ (fun y => hS.box (Gen.k0_off25_eq k) _ y) (sublanes_apply _ _ _ _ _ _ _ _ _ (C 1 (k.val / 16)) (fun y => (hV.box (Gen.k0_off39_eq k) _ y).trans (by rw [Nat.mul_zero, Nat.zero_add])) (fun y => hV.box (Gen.k0_off40_eq k) _ y) (fun y => hV.box (Gen.k0_off41_eq k) _ y) (fun y => hV.box (Gen.k0_off42_eq k) _ y) (fun y => hV.box (Gen.k0_off43_eq k) _ y) (fun y => hV.box (Gen.k0_off44_eq k) _ y) (fun y => hV.box (Gen.k0_off45_eq k) _ y) (fun y => hV.box (Gen.k0_off46_eq k) _ y)) x

/-- Loop 3 of the body: between trips the buffers it reads hold what they held, and its target the weights of
    the tiles done. -/
@[sl_loop, instance_reducible] noncomputable def loopInv_k0_t3 (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole) (k0_h3 : k0_cond3 i = 1#1) (v25 : FVec F S8x128 .f32) (v28 : IVec S1x128 1) (v53 : IVec S256x128 32) (v79 : IVec S256x128 32) (v83 : IVec S256x128 1) (v93 : FVec F S256x256 .f32) (v130 : FVec F S1x128 .f32) (v131 : FVec F S256x128 .f32)
    (C : ℕ → ℕ → ℕ → BitVec 8) (sc : ℕ → F .bf16) (f3 : Buf (Elt F) (arg3.view.loc (c : Thread nD τ))) (f8 : Buf (Elt F) (arg8.view.loc (c : Thread nD τ))) (f9 : Buf (Elt F) (arg9.view.loc (c : Thread nD τ))) (f10 : Buf (Elt F) (arg10.view.loc (c : Thread nD τ)))
    (hT : Tabs C sc (arg8.view.read (Elt F) f8) (arg9.view.read (Elt F) f9) (arg10.view.read (Elt F) f10)) :
    Cert.KernelIdeal.Gen.LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 k0_h3 v25 v28 v53 v79 v83 v93 v130 v131 where
  inv := fun k _ => iprop((arg3.view.loc (c : Thread nD τ) ↦[arg3.view.set]{fullShare} f3) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ ∃ g : Buf (Elt F) (arg12.view.loc (c : Thread nD τ)), ⌜Done C sc (arg3.view.read (Elt F) f3) k (arg12.view.read (Elt F) g)⌝ ∗ (arg12.view.loc (c : Thread nD τ) ↦[arg12.view.set]{fullShare} g))
  step := fun k acc => by
    obtain ⟨hX, hV, hS⟩ := hT
    unfold Gen.k0_t3_body
    iintro ⟨H3, H8, H9, H10, %g, %hg, Hw⟩
    by_cases hc : k0_cond5 k = 1#1
    · sl_exec
      sl_step
      isplitl [H3]; · iexact H3
      isplitl [H8]; · iexact H8
      isplitl [H9]; · iexact H9
      isplitl [H10]; · iexact H10
      iexists _
      isplitr
      swap; · iexact Hw
      ipureintro
      refine step_done C sc _ k.val g (Gen.k0_off71_eq k) (Gen.k0_off72_eq k) _ _ hg ?_ ?_
      · intro x
        sl_open_run
        exact piece (k := k.val) (Gen.k0_off71_eq k) (Gen.k0_off50_eq k) _ _ (fun y => hS.box (Gen.k0_off49_eq k) _ y) (lanes_apply _ _ _ (C 0 (k.val / 16)) (fun y => (hX.box (Gen.k0_off51_eq k) _ y).trans (by rw [Nat.mul_zero, Nat.zero_add])) (fun y => hX.box (Gen.k0_off52_eq k) _ y)) x
      · intro x
        sl_open_run
        exact piece (k := k.val) (Gen.k0_off72_eq k) (Gen.k0_off50_eq k) _ _ (fun y => hS.box (Gen.k0_off49_eq k) _ y) (lanes_apply _ _ _ (C 1 (k.val / 16)) (fun y => (hX.box (Gen.k0_off53_eq k) _ y).trans (by rw [Nat.mul_zero, Nat.zero_add])) (fun y => hX.box (Gen.k0_off54_eq k) _ y)) x
    · sl_exec
      sl_step
      isplitl [H3]; · iexact H3
      isplitl [H8]; · iexact H8
      isplitl [H9]; · iexact H9
      isplitl [H10]; · iexact H10
      iexists _
      isplitr
      swap; · iexact Hw
      ipureintro
      refine step_done C sc _ k.val g (Gen.k0_off71_eq k) (Gen.k0_off72_eq k) _ _ hg ?_ ?_
      · intro x
        sl_open_run
        exact piece (k := k.val) (Gen.k0_off71_eq k) (Gen.k0_off50_eq k) _ _ (fun y => hS.box (Gen.k0_off49_eq k) _ y) (sublanes_apply _ _ _ _ _ _ _ _ _ (C 0 (k.val / 16)) (fun y => (hV.box (Gen.k0_off55_eq k) _ y).trans (by rw [Nat.mul_zero, Nat.zero_add])) (fun y => hV.box (Gen.k0_off56_eq k) _ y) (fun y => hV.box (Gen.k0_off57_eq k) _ y) (fun y => hV.box (Gen.k0_off58_eq k) _ y) (fun y => hV.box (Gen.k0_off59_eq k) _ y) (fun y => hV.box (Gen.k0_off60_eq k) _ y) (fun y => hV.box (Gen.k0_off61_eq k) _ y) (fun y => hV.box (Gen.k0_off62_eq k) _ y)) x
      · intro x
        sl_open_run
        exact piece (k := k.val) (Gen.k0_off72_eq k) (Gen.k0_off50_eq k) _ _ (fun y => hS.box (Gen.k0_off49_eq k) _ y) (sublanes_apply _ _ _ _ _ _ _ _ _ (C 1 (k.val / 16)) (fun y => (hV.box (Gen.k0_off63_eq k) _ y).trans (by rw [Nat.mul_zero, Nat.zero_add])) (fun y => hV.box (Gen.k0_off64_eq k) _ y) (fun y => hV.box (Gen.k0_off65_eq k) _ y) (fun y => hV.box (Gen.k0_off66_eq k) _ y) (fun y => hV.box (Gen.k0_off67_eq k) _ y) (fun y => hV.box (Gen.k0_off68_eq k) _ y) (fun y => hV.box (Gen.k0_off69_eq k) _ y) (fun y => hV.box (Gen.k0_off70_eq k) _ y)) x

end Cert.Proof.Value

end
-- ==== Proof.Value.Job.lean ====
/-
  The kernel's product of one job, read at an element of the result block: the dot product of the input's row and
  the looked-up weights' column, scaled, the pairs of columns interleaved along the lanes.
-/
module

public import proofs.«01_k».proof.Proof.Gen.KernelIdeal.Skeleton
public import proofs.«01_k».proof.Proof.Value.Lookup

@[expose] public section

set_option maxRecDepth 16384

noncomputable section

namespace Cert.Proof.Value

open Cert.KernelIdeal Cert.KernelIdeal.Gen
open Idealize.ShloMosaic

variable {F : FTy → Type} [FloatOps F]

/-- what holds of the 128 lanes one by one holds of every lane -/
theorem lane_all (P : ℕ → Prop) (h : ∀ n < 128, P n) (l : Fin 128) : P l.val := h l.val l.isLt

/-- The first half's pattern: lane `l` reads lane `l / 2`. -/
theorem patA_apply (j : S256x128.Idx) : k0_pay232 k0_pay229 k0_pay230 k0_pay231 j = BitVec.ofNat 32 ((j 1).val / 2) := by
  unfold k0_pay232 k0_pay229 k0_pay230 k0_pay231
  pointwise
  exact lane_all (fun n => Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 n) 2#32) 0#32))
      (IntOp.subi (IntOp.divsi ArithUnit.vector (BitVec.ofNat 32 n) 2#32) 1#32)
      (IntOp.divsi ArithUnit.vector (BitVec.ofNat 32 n) 2#32) =
    BitVec.ofNat 32 (n / 2)) (by decide +kernel) (j 1)

/-- The second half's pattern: lane `l` reads lane `64 + l / 2`. -/
theorem patB_apply (j : S256x128.Idx) : k0_pay233 (iota .tc S256x128 32 [1] iota_S256x128_d1_w32) j = BitVec.ofNat 32 (64 + (j 1).val / 2) := by
  unfold k0_pay233
  pointwise
  exact lane_all (fun n => IntOp.addi (64#32) (Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 2#32 0#32))
            (Scalar.extui (Scalar.cmpi CmpIPredicate.slt 2#32 0#32))))
        (IntOp.cmpi CmpIPredicate.ne (IntOp.remsi ArithUnit.vector (BitVec.ofNat 32 n) 2#32) 0#32))
      (IntOp.subi (IntOp.divsi ArithUnit.vector (BitVec.ofNat 32 n) 2#32) 1#32)
      (IntOp.divsi ArithUnit.vector (BitVec.ofNat 32 n) 2#32)) =
    BitVec.ofNat 32 (64 + n / 2)) (by decide +kernel) (j 1)

/-- The test of an even lane. -/
theorem even_apply (j : S256x128.Idx) : k0_pay234 (iota .tc S256x128 32 [1] iota_S256x128_d1_w32) j = if (j 1).val % 2 = 0 then 1#1 else 0#1 := by
  unfold k0_pay234
  pointwise
  exact lane_all (fun n => IntOp.cmpi CmpIPredicate.eq (IntOp.andi (BitVec.ofNat 32 n) 1#32) 0#32 = if n % 2 = 0 then 1#1 else 0#1) (by decide +kernel) (j 1)

/-- The test of a lane of the first half. -/
theorem low_apply (j : S1x128.Idx) : k0_pay228 j = if (j 1).val < 64 then 1#1 else 0#1 := by
  unfold k0_pay228
  pointwise
  exact lane_all (fun n => IntOp.cmpi CmpIPredicate.slt (BitVec.ofNat 32 n) 64#32 = if n < 64 then 1#1 else 0#1) (by decide +kernel) (j 1)

/-- The scales of the even columns, twice over along the lanes. -/
theorem ev_apply (os : Vec F S8x128 .f32) (j : S8x128.Idx) : k0_pay226 os j = os (ix2 (j 0) ⟨(2 * (j 1).val + 0) % 128, Nat.mod_lt _ (by decide)⟩) := by
  unfold k0_pay226 k0_pay225
  pointwise
  congr 3
  exact lane_all (fun n => (IntOp.andi (IntOp.muli (2#32) (BitVec.ofNat 32 n)) 127#32).toNat % 128 = (2 * n + 0) % 128) (by decide +kernel) (j 1)

/-- The scales of the odd columns, twice over along the lanes. -/
theorem od_apply (os : Vec F S8x128 .f32) (j : S8x128.Idx) : k0_pay227 os j = os (ix2 (j 0) ⟨(2 * (j 1).val + 1) % 128, Nat.mod_lt _ (by decide)⟩) := by
  unfold k0_pay227 k0_pay225
  pointwise
  congr 3
  exact lane_all (fun n => (IntOp.andi (IntOp.addi (IntOp.muli (2#32) (BitVec.ofNat 32 n)) 1#32) 127#32).toNat % 128 = (2 * n + 1) % 128) (by decide +kernel) (j 1)

/-- The products of one half of a job's columns, scaled and rounded. -/
def scaled (oc ot ou : Fin 2 → ℕ) (hc : S256x256.Slices oc S256x128) (ht : S8x128.Slices ot S1x128) (hu : S8x128.Slices ou S1x128)
    (low : IVec S1x128 1) (ev : FVec F S8x128 .f32) (A : FVec F S256x256 .f32) : FVec F S256x128 .f32 :=
  extf .f32 (truncf .bf16 (mulf (extractStridedSlice S256x128 oc A hc) (broadcastTo S256x128 (select low (extractStridedSlice S1x128 ot ev ht) (extractStridedSlice S1x128 ou ev hu)) broadcasts_S1x128_S256x128)) bitsLt_bf16_f32) bitsLt_bf16_f32

/-- Column `c + l` of the products, times the scale of lane `l` of the row its half selects. -/
theorem scaled_apply (c t : ℕ) (hc) (ht) (hu) (ev : FVec F S8x128 .f32) (A : FVec F S256x256 .f32) (j : S256x128.Idx) (hk : c + (j 1).val < 256) (hr : t + (j 1).val / 64 < 8) :
   scaled ![0, c] ![t, 0] ![t + 1, 0] hc ht hu k0_pay228 ev A j = FloatOps.extf .f32 bitsLt_bf16_f32 (FloatOps.truncf .bf16 bitsLt_bf16_f32 (FloatOps.mulf (A (ix2 (j 0) ⟨c + (j 1).val, hk⟩)) (ev (ix2 ⟨t + (j 1).val / 64, hr⟩ (j 1))))) := by
  unfold scaled
  pointwise
  rw [low_apply, select_if]
  have h1 : (j 1).val < 128 := (j 1).isLt
  congr 3
  show (if (j 1).val < 64 then _ else _) = _
  split
  · congr 2; apply Fin.ext; show t = t + (j 1).val / 64; omega
  · congr 2; apply Fin.ext; show t + 1 = t + (j 1).val / 64; omega

/-- The interleaving of the pairs' columns along the lanes. -/
def pick (pat : IVec S256x128 32) (even : IVec S256x128 1) (u v : FVec F S256x128 .f32) : FVec F S256x128 .bf16 :=
  truncf .bf16 (select even (dynamicGather 1 u (shapeCast S256x128 (shapeCast S256x128x1 pat shapeCasts_S256x128_S256x128x1) shapeCasts_S256x128x1_S256x128)) (dynamicGather 1 v (shapeCast S256x128 (shapeCast S256x128x1 pat shapeCasts_S256x128_S256x128x1) shapeCasts_S256x128x1_S256x128))) bitsLt_bf16_f32

/-- Lane `l` is the even positions' lane its pattern names, or the odd positions'. -/
theorem pick_apply (pat : IVec S256x128 32) (u v : FVec F S256x128 .f32) (j : S256x128.Idx) (q : ℕ) (hq : q < 128) (hp : pat j = BitVec.ofNat 32 q) :
   pick pat (k0_pay234 (iota .tc S256x128 32 [1] iota_S256x128_d1_w32)) u v j = FloatOps.truncf .bf16 bitsLt_bf16_f32 (if (j 1).val % 2 = 0 then u (ix2 (j 0) ⟨q, hq⟩) else v (ix2 (j 0) ⟨q, hq⟩)) := by
  unfold pick
  pointwise
  rw [even_apply, select_if]
  have e : (pat j).toNat % 128 = q := by rw [hp, BitVec.toNat_ofNat]; omega
  simp only [e]

/-- The matrix of the input as the kernel keeps it, pairs of rows together. -/
def xmat (xw : Vec F S128x2x1024 .bf16) : FVec F S256x1024 .bf16 := fun j =>
  xw (ix3 ⟨(j 0).val / 2, by have := (j 0).isLt; simp at this; omega⟩ ⟨(j 0).val % 2, Nat.mod_lt _ (by decide)⟩ (j 1))

/-- The matrix of one position of the looked-up weights' pairs. -/
def wmat (w : Vec F S2x512x2x256 .bf16) (p : Fin 2) : FVec F S1024x256 .bf16 := fun j =>
  w (ix4 p ⟨(j 0).val / 2, by have := (j 0).isLt; simp at this; omega⟩ ⟨(j 0).val % 2, Nat.mod_lt _ (by decide)⟩ (j 1))

/-- The unpacked input. -/
theorem xmat_eq (xw : Vec F S128x2x1024 .bf16) : k0_pay235 xw = xmat xw := by
  funext j
  unfold k0_pay235 xmat
  pointwise
  obtain h | h : (j 0).val % 2 = 0 ∨ (j 0).val % 2 = 1 := by omega
  · simp [h]
  · simp [h]

/-- The unpacked weights. -/
theorem wmat_eq (w : Vec F S2x512x2x256 .bf16) (p : Fin 2) (v : Vec F S1x512x2x256 .bf16) (hv : ∀ y, v y = w (ix4 p (y 1) (y 2) (y 3))) :
    interleaveRows S1024x256 (shapeCast S512x256 (k0_pay236 v) shapeCasts_S1x512x256_S512x256) (shapeCast S512x256 (k0_pay237 v) shapeCasts_S1x512x256_S512x256) bitcasts_S1024x256_w16_S512x256_w32 = wmat w p := by
  funext j
  unfold k0_pay236 k0_pay237 wmat
  pointwise
  rw [hv, hv]
  obtain h | h : (j 0).val % 2 = 0 ∨ (j 0).val % 2 = 1 := by omega
  · simp [h]
  · simp [h]

/-- The dot products of one job, for one position of the pairs. -/
def prod (xw : Vec F S128x2x1024 .bf16) (w : Vec F S2x512x2x256 .bf16) (p : Fin 2) : FVec F S256x256 .f32 :=
  matmul dot_S256x1024_S1024x256_S256x256_1_0_0_1_n_n none (xmat xw) (wmat w p) (constant S256x256 .f32 0x00000000#32)

/-- The result block of a later grid point. -/
def outBlk (xw : Vec F S128x2x1024 .bf16) (w0 w1 : Vec F S2x512x2x256 .bf16) (os : Vec F S8x128 .f32) : Vec F S256x1024 .bf16 := fun y =>
  FloatOps.truncf .bf16 bitsLt_bf16_f32 (FloatOps.extf .f32 bitsLt_bf16_f32 (FloatOps.truncf .bf16 bitsLt_bf16_f32 (FloatOps.mulf
    (prod xw (if (y 1).val < 512 then w0 else w1) ⟨(y 1).val % 2, Nat.mod_lt _ (by decide)⟩ (ix2 (y 0) ⟨(y 1).val % 512 / 2, by omega⟩))
    (os (ix2 ⟨(y 1).val / 128, by have h : (y 1).val < 1024 := (y 1).isLt; omega⟩ ⟨(y 1).val % 128, Nat.mod_lt _ (by decide)⟩)))))

/-- A tile of the result: 128 columns of the block from column `128 * T`. -/
theorem tile_apply (xw : Vec F S128x2x1024 .bf16) (w0 w1 w : Vec F S2x512x2x256 .bf16) (os : Vec F S8x128 .f32) (pat : IVec S256x128 32) (T c t q : ℕ)
    (hT : T < 8) (hw : w = if T < 4 then w0 else w1) (ec : c = 128 * (T % 4 / 2)) (et : t = 2 * (T / 2)) (eq : q = 64 * (T % 2))
    (hp : ∀ j, pat j = BitVec.ofNat 32 (q + (j 1).val / 2)) (hc) (ht) (hu) {o : Fin 2 → ℕ} (eo : o = ![0, 128 * T])
    (i : ∀ a, o a + S256x128.size a ≤ S256x1024.size a) (j : S256x128.Idx) :
    pick pat (k0_pay234 (iota .tc S256x128 32 [1] iota_S256x128_d1_w32))
      (scaled ![0, c] ![t, 0] ![t + 1, 0] hc ht hu k0_pay228 (k0_pay226 os) (prod xw w 0))
      (scaled ![0, c] ![t, 0] ![t + 1, 0] hc ht hu k0_pay228 (k0_pay227 os) (prod xw w 1)) j
      = outBlk xw w0 w1 os ((Rect.unit (s := S256x1024) o S256x128.size i).emb j) := by
  subst eo
  have j1 : (j 1).val < 128 := (j 1).isLt
  have j0 : (j 0).val < 256 := (j 0).isLt
  rw [pick_apply pat _ _ j (q + (j 1).val / 2) (by omega) (hp j)]
  rw [scaled_apply c t hc ht hu _ _ _ (by show c + (q + (j 1).val / 2) < 256; omega) (by show t + (q + (j 1).val / 2) / 64 < 8; omega),
    scaled_apply c t hc ht hu _ _ _ (by show c + (q + (j 1).val / 2) < 256; omega) (by show t + (q + (j 1).val / 2) / 64 < 8; omega), ev_apply, od_apply]
  have e1 : ((Rect.unit (s := S256x1024) ![0, 128 * T] S256x128.size i).emb j 1).val = 128 * T + 1 * (j 1).val := rfl
  have e0 : ((Rect.unit (s := S256x1024) ![0, 128 * T] S256x128.size i).emb j 0) = j 0 := Fin.ext (by show 0 + 1 * (j 0).val = _; omega)
  unfold outBlk
  have hw' : (if ((Rect.unit (s := S256x1024) ![0, 128 * T] S256x128.size i).emb j 1).val < 512 then w0 else w1) = w := by
    rw [e1, hw]; by_cases h : T < 4
    · rw [if_pos h, if_pos (by omega)]
    · rw [if_neg h, if_neg (by omega)]
  rw [hw']
  congr 1
  have f0 : (ix2 (j 0) ⟨c + (q + (j 1).val / 2), by omega⟩ : S256x256.Idx) = ix2 ((Rect.unit (s := S256x1024) ![0, 128 * T] S256x128.size i).emb j 0) ⟨((Rect.unit (s := S256x1024) ![0, 128 * T] S256x128.size i).emb j 1).val % 512 / 2, by omega⟩ := by
    rw [e0]; refine congrArg (ix2 (j 0)) (Fin.ext ?_); show c + (q + (j 1).val / 2) = ((Rect.unit (s := S256x1024) ![0, 128 * T] S256x128.size i).emb j 1).val % 512 / 2; omega
  obtain h | h : (j 1).val % 2 = 0 ∨ (j 1).val % 2 = 1 := by omega
  · rw [if_pos h]
    congr 3
    · refine (congrArg (prod xw w 0) f0).trans (congrFun (congrArg (prod xw w) ?_) _)
      apply Fin.ext; show 0 = ((Rect.unit (s := S256x1024) ![0, 128 * T] S256x128.size i).emb j 1).val % 2; omega
    · refine congrArg os (congrArg₂ ix2 (Fin.ext ?_) (Fin.ext ?_))
      · show t + (q + (j 1).val / 2) / 64 = ((Rect.unit (s := S256x1024) ![0, 128 * T] S256x128.size i).emb j 1).val / 128; omega
      · show (2 * (q + (j 1).val / 2) + 0) % 128 = ((Rect.unit (s := S256x1024) ![0, 128 * T] S256x128.size i).emb j 1).val % 128; omega
  · rw [if_neg (by omega)]
    congr 3
    · refine (congrArg (prod xw w 1) f0).trans (congrFun (congrArg (prod xw w) ?_) _)
      apply Fin.ext; show 1 = ((Rect.unit (s := S256x1024) ![0, 128 * T] S256x128.size i).emb j 1).val % 2; omega
    · refine congrArg os (congrArg₂ ix2 (Fin.ext ?_) (Fin.ext ?_))
      · show t + (q + (j 1).val / 2) / 64 = ((Rect.unit (s := S256x1024) ![0, 128 * T] S256x128.size i).emb j 1).val / 128; omega
      · show (2 * (q + (j 1).val / 2) + 1) % 128 = ((Rect.unit (s := S256x1024) ![0, 128 * T] S256x128.size i).emb j 1).val % 128; omega

/-! ### What the body stores -/

/-- The first position's products, as the first job computes them. -/
theorem acc0_eq (w : Vec F S2x512x2x256 .bf16) (x11 : Vec F S128x2x1024 .bf16) (v0 : Vec F S1x512x2x256 .bf16) (h0 : ∀ y, v0 y = w (ix4 0 (y 1) (y 2) (y 3))) :
    k0_pay238 (k0_pay235 x11) (k0_pay236 v0) (k0_pay237 v0) = prod x11 w 0 := by
  unfold k0_pay238 prod
  rw [xmat_eq]
  exact congrArg (fun z => matmul dot_S256x1024_S1024x256_S256x256_1_0_0_1_n_n none (xmat x11) z (constant S256x256 .f32 0x00000000#32)) (wmat_eq w 0 v0 h0)

/-- The second position's products, as the first job computes them. -/
theorem acc1_eq (w : Vec F S2x512x2x256 .bf16) (x11 : Vec F S128x2x1024 .bf16) (v1 : Vec F S1x512x2x256 .bf16) (h1 : ∀ y, v1 y = w (ix4 1 (y 1) (y 2) (y 3))) :
    k0_pay239 (k0_pay235 x11) v1 = prod x11 w 1 := by
  unfold k0_pay239 prod
  rw [xmat_eq]
  exact congrArg (fun z => matmul dot_S256x1024_S1024x256_S256x256_1_0_0_1_n_n none (xmat x11) z (constant S256x256 .f32 0x00000000#32)) (wmat_eq w 1 v1 h1)

/-- The first position's products, as the second job computes them. -/
theorem acc2_eq (w : Vec F S2x512x2x256 .bf16) (x11 : Vec F S128x2x1024 .bf16) (v0 : Vec F S1x512x2x256 .bf16) (h0 : ∀ y, v0 y = w (ix4 0 (y 1) (y 2) (y 3))) :
    k0_pay262 x11 v0 = prod x11 w 0 := acc0_eq w x11 v0 h0

/-- The second position's products, as the second job computes them. -/
theorem acc3_eq (w : Vec F S2x512x2x256 .bf16) (x11 : Vec F S128x2x1024 .bf16) (v1 : Vec F S1x512x2x256 .bf16) (h1 : ∀ y, v1 y = w (ix4 1 (y 1) (y 2) (y 3))) :
    k0_pay263 x11 v1 = prod x11 w 1 := acc1_eq w x11 v1 h1

/-- The second job's first pattern is the first job's. -/
theorem patA'_eq : k0_pay256 = k0_pay232 k0_pay229 k0_pay230 k0_pay231 := rfl

/-- Tile 0 of the result block. -/
theorem store0_apply (w0 w1 : Vec F S2x512x2x256 .bf16) (x6 : Vec F S8x128 .f32) (x11 : Vec F S128x2x1024 .bf16) (v0 v1 : Vec F S1x512x2x256 .bf16)
    (h0 : ∀ y, v0 y = w0 (ix4 0 (y 1) (y 2) (y 3))) (h1 : ∀ y, v1 y = w0 (ix4 1 (y 1) (y 2) (y 3))) (i : ∀ a, (![0, 0] : Fin 2 → ℕ) a + S256x128.size a ≤ S256x1024.size a) (x : S256x128.Idx) :
    k0_pay242 (k0_pay226 x6) (k0_pay227 x6) k0_pay228 (k0_pay232 k0_pay229 k0_pay230 k0_pay231) (k0_pay234 (iota .tc S256x128 32 [1] iota_S256x128_d1_w32)) (k0_pay235 x11) (k0_pay236 v0) (k0_pay237 v0) v1 x
      = outBlk x11 w0 w1 x6 ((Rect.unit (s := S256x1024) ![0, 0] S256x128.size i).emb x) := by
  show pick (k0_pay232 k0_pay229 k0_pay230 k0_pay231) (k0_pay234 (iota .tc S256x128 32 [1] iota_S256x128_d1_w32)) (scaled ![0, 0] ![0, 0] ![1, 0] slices_S256x256_o0_0_S256x128 slices_S8x128_o0_0_S1x128 slices_S8x128_o1_0_S1x128 k0_pay228 (k0_pay226 x6) (k0_pay238 (k0_pay235 x11) (k0_pay236 v0) (k0_pay237 v0))) (scaled ![0, 0] ![0, 0] ![1, 0] slices_S256x256_o0_0_S256x128 slices_S8x128_o0_0_S1x128 slices_S8x128_o1_0_S1x128 k0_pay228 (k0_pay227 x6) (k0_pay239 (k0_pay235 x11) v1)) x = _
  rw [acc0_eq w0 x11 v0 h0, acc1_eq w0 x11 v1 h1]
  exact tile_apply x11 w0 w1 w0 x6 _ 0 0 0 0 (by decide) rfl rfl rfl rfl (fun j => by rw [Nat.zero_add]; exact patA_apply j) _ _ _ rfl i x

/-- Tile 1 of the result block. -/
theorem store1_apply (w0 w1 : Vec F S2x512x2x256 .bf16) (x6 : Vec F S8x128 .f32) (x11 : Vec F S128x2x1024 .bf16) (v0 v1 : Vec F S1x512x2x256 .bf16)
    (h0 : ∀ y, v0 y = w0 (ix4 0 (y 1) (y 2) (y 3))) (h1 : ∀ y, v1 y = w0 (ix4 1 (y 1) (y 2) (y 3))) (i : ∀ a, (![0, 128] : Fin 2 → ℕ) a + S256x128.size a ≤ S256x1024.size a) (x : S256x128.Idx) :
    k0_pay243 (k0_pay226 x6) (k0_pay227 x6) k0_pay228 (k0_pay233 (iota .tc S256x128 32 [1] iota_S256x128_d1_w32)) (k0_pay234 (iota .tc S256x128 32 [1] iota_S256x128_d1_w32)) (k0_pay235 x11) (k0_pay236 v0) (k0_pay237 v0) v1 x
      = outBlk x11 w0 w1 x6 ((Rect.unit (s := S256x1024) ![0, 128] S256x128.size i).emb x) := by
  show pick (k0_pay233 (iota .tc S256x128 32 [1] iota_S256x128_d1_w32)) (k0_pay234 (iota .tc S256x128 32 [1] iota_S256x128_d1_w32)) (scaled ![0, 0] ![0, 0] ![1, 0] slices_S256x256_o0_0_S256x128 slices_S8x128_o0_0_S1x128 slices_S8x128_o1_0_S1x128 k0_pay228 (k0_pay226 x6) (k0_pay238 (k0_pay235 x11) (k0_pay236 v0) (k0_pay237 v0))) (scaled ![0, 0] ![0, 0] ![1, 0] slices_S256x256_o0_0_S256x128 slices_S8x128_o0_0_S1x128 slices_S8x128_o1_0_S1x128 k0_pay228 (k0_pay227 x6) (k0_pay239 (k0_pay235 x11) v1)) x = _
  rw [acc0_eq w0 x11 v0 h0, acc1_eq w0 x11 v1 h1]
  exact tile_apply x11 w0 w1 w0 x6 _ 1 0 0 64 (by decide) rfl rfl rfl rfl patB_apply _ _ _ rfl i x

/-- Tile 2 of the result block. -/
theorem store2_apply (w0 w1 : Vec F S2x512x2x256 .bf16) (x6 : Vec F S8x128 .f32) (x11 : Vec F S128x2x1024 .bf16) (v0 v1 : Vec F S1x512x2x256 .bf16)
    (h0 : ∀ y, v0 y = w0 (ix4 0 (y 1) (y 2) (y 3))) (h1 : ∀ y, v1 y = w0 (ix4 1 (y 1) (y 2) (y 3))) (i : ∀ a, (![0, 256] : Fin 2 → ℕ) a + S256x128.size a ≤ S256x1024.size a) (x : S256x128.Idx) :
    k0_pay248 (k0_pay227 x6) k0_pay228 (k0_pay232 k0_pay229 k0_pay230 k0_pay231) (k0_pay234 (iota .tc S256x128 32 [1] iota_S256x128_d1_w32)) (k0_pay239 (k0_pay235 x11) v1) (k0_pay244 (k0_pay226 x6) k0_pay228) (k0_pay245 (k0_pay235 x11) (k0_pay236 v0) (k0_pay237 v0)) x
      = outBlk x11 w0 w1 x6 ((Rect.unit (s := S256x1024) ![0, 256] S256x128.size i).emb x) := by
  show pick (k0_pay232 k0_pay229 k0_pay230 k0_pay231) (k0_pay234 (iota .tc S256x128 32 [1] iota_S256x128_d1_w32)) (scaled ![0, 128] ![2, 0] ![3, 0] slices_S256x256_o0_128_S256x128 slices_S8x128_o2_0_S1x128 slices_S8x128_o3_0_S1x128 k0_pay228 (k0_pay226 x6) (k0_pay238 (k0_pay235 x11) (k0_pay236 v0) (k0_pay237 v0))) (scaled ![0, 128] ![2, 0] ![3, 0] slices_S256x256_o0_128_S256x128 slices_S8x128_o2_0_S1x128 slices_S8x128_o3_0_S1x128 k0_pay228 (k0_pay227 x6) (k0_pay239 (k0_pay235 x11) v1)) x = _
  rw [acc0_eq w0 x11 v0 h0, acc1_eq w0 x11 v1 h1]
  exact tile_apply x11 w0 w1 w0 x6 _ 2 128 2 0 (by decide) rfl rfl rfl rfl (fun j => by rw [Nat.zero_add]; exact patA_apply j) _ _ _ rfl i x

/-- Tile 3 of the result block. -/
theorem store3_apply (w0 w1 : Vec F S2x512x2x256 .bf16) (x6 : Vec F S8x128 .f32) (x11 : Vec F S128x2x1024 .bf16) (v0 v1 : Vec F S1x512x2x256 .bf16)
    (h0 : ∀ y, v0 y = w0 (ix4 0 (y 1) (y 2) (y 3))) (h1 : ∀ y, v1 y = w0 (ix4 1 (y 1) (y 2) (y 3))) (i : ∀ a, (![0, 384] : Fin 2 → ℕ) a + S256x128.size a ≤ S256x1024.size a) (x : S256x128.Idx) :
    k0_pay249 (k0_pay227 x6) k0_pay228 (k0_pay233 (iota .tc S256x128 32 [1] iota_S256x128_d1_w32)) (k0_pay234 (iota .tc S256x128 32 [1] iota_S256x128_d1_w32)) (k0_pay239 (k0_pay235 x11) v1) (k0_pay244 (k0_pay226 x6) k0_pay228) (k0_pay245 (k0_pay235 x11) (k0_pay236 v0) (k0_pay237 v0)) x
      = outBlk x11 w0 w1 x6 ((Rect.unit (s := S256x1024) ![0, 384] S256x128.size i).emb x) := by
  show pick (k0_pay233 (iota .tc S256x128 32 [1] iota_S256x128_d1_w32)) (k0_pay234 (iota .tc S256x128 32 [1] iota_S256x128_d1_w32)) (scaled ![0, 128] ![2, 0] ![3, 0] slices_S256x256_o0_128_S256x128 slices_S8x128_o2_0_S1x128 slices_S8x128_o3_0_S1x128 k0_pay228 (k0_pay226 x6) (k0_pay238 (k0_pay235 x11) (k0_pay236 v0) (k0_pay237 v0))) (scaled ![0, 128] ![2, 0] ![3, 0] slices_S256x256_o0_128_S256x128 slices_S8x128_o2_0_S1x128 slices_S8x128_o3_0_S1x128 k0_pay228 (k0_pay227 x6) (k0_pay239 (k0_pay235 x11) v1)) x = _
  rw [acc0_eq w0 x11 v0 h0, acc1_eq w0 x11 v1 h1]
  exact tile_apply x11 w0 w1 w0 x6 _ 3 128 2 64 (by decide) rfl rfl rfl rfl patB_apply _ _ _ rfl i x

/-- Tile 4 of the result block. -/
theorem store4_apply (w0 w1 : Vec F S2x512x2x256 .bf16) (x6 : Vec F S8x128 .f32) (x11 : Vec F S128x2x1024 .bf16) (v0 v1 : Vec F S1x512x2x256 .bf16)
    (h0 : ∀ y, v0 y = w1 (ix4 0 (y 1) (y 2) (y 3))) (h1 : ∀ y, v1 y = w1 (ix4 1 (y 1) (y 2) (y 3))) (i : ∀ a, (![0, 512] : Fin 2 → ℕ) a + S256x128.size a ≤ S256x1024.size a) (x : S256x128.Idx) :
    k0_pay266 (k0_pay254 (k0_pay251 x6) k0_pay253 1#32) (k0_pay255 (iota .tc S8x128 32 [1] iota_S8x128_d1_w32)) k0_pay256 (k0_pay260 (iota .tc S256x128 32 [1] iota_S256x128_d1_w32)) (k0_pay263 x11 v1) (k0_pay264 (k0_pay252 x6) (k0_pay255 (iota .tc S8x128 32 [1] iota_S8x128_d1_w32)) x11 v0) x
      = outBlk x11 w0 w1 x6 ((Rect.unit (s := S256x1024) ![0, 512] S256x128.size i).emb x) := by
  show pick (k0_pay232 k0_pay229 k0_pay230 k0_pay231) (k0_pay234 (iota .tc S256x128 32 [1] iota_S256x128_d1_w32)) (scaled ![0, 0] ![4, 0] ![5, 0] slices_S256x256_o0_0_S256x128 slices_S8x128_o4_0_S1x128 slices_S8x128_o5_0_S1x128 k0_pay228 (k0_pay226 x6) (k0_pay262 x11 v0)) (scaled ![0, 0] ![4, 0] ![5, 0] slices_S256x256_o0_0_S256x128 slices_S8x128_o4_0_S1x128 slices_S8x128_o5_0_S1x128 k0_pay228 (k0_pay227 x6) (k0_pay263 x11 v1)) x = _
  rw [acc2_eq w1 x11 v0 h0, acc3_eq w1 x11 v1 h1]
  exact tile_apply x11 w0 w1 w1 x6 _ 4 0 4 0 (by decide) rfl rfl rfl rfl (fun j => by rw [Nat.zero_add]; exact patA_apply j) _ _ _ rfl i x

/-- Tile 5 of the result block. -/
theorem store5_apply (w0 w1 : Vec F S2x512x2x256 .bf16) (x6 : Vec F S8x128 .f32) (x11 : Vec F S128x2x1024 .bf16) (v0 v1 : Vec F S1x512x2x256 .bf16)
    (h0 : ∀ y, v0 y = w1 (ix4 0 (y 1) (y 2) (y 3))) (h1 : ∀ y, v1 y = w1 (ix4 1 (y 1) (y 2) (y 3))) (i : ∀ a, (![0, 640] : Fin 2 → ℕ) a + S256x128.size a ≤ S256x1024.size a) (x : S256x128.Idx) :
    k0_pay267 (k0_pay254 (k0_pay251 x6) k0_pay253 1#32) (k0_pay255 (iota .tc S8x128 32 [1] iota_S8x128_d1_w32)) (k0_pay259 (iota .tc S256x128 32 [1] iota_S256x128_d1_w32) 2#32 k0_pay257 k0_pay258 (Scalar.extui (Scalar.cmpi .sgt 2#32 0#32)) 0#32) (k0_pay260 (iota .tc S256x128 32 [1] iota_S256x128_d1_w32)) (k0_pay263 x11 v1) (k0_pay264 (k0_pay252 x6) (k0_pay255 (iota .tc S8x128 32 [1] iota_S8x128_d1_w32)) x11 v0) x
      = outBlk x11 w0 w1 x6 ((Rect.unit (s := S256x1024) ![0, 640] S256x128.size i).emb x) := by
  show pick (k0_pay233 (iota .tc S256x128 32 [1] iota_S256x128_d1_w32)) (k0_pay234 (iota .tc S256x128 32 [1] iota_S256x128_d1_w32)) (scaled ![0, 0] ![4, 0] ![5, 0] slices_S256x256_o0_0_S256x128 slices_S8x128_o4_0_S1x128 slices_S8x128_o5_0_S1x128 k0_pay228 (k0_pay226 x6) (k0_pay262 x11 v0)) (scaled ![0, 0] ![4, 0] ![5, 0] slices_S256x256_o0_0_S256x128 slices_S8x128_o4_0_S1x128 slices_S8x128_o5_0_S1x128 k0_pay228 (k0_pay227 x6) (k0_pay263 x11 v1)) x = _
  rw [acc2_eq w1 x11 v0 h0, acc3_eq w1 x11 v1 h1]
  exact tile_apply x11 w0 w1 w1 x6 _ 5 0 4 64 (by decide) rfl rfl rfl rfl patB_apply _ _ _ rfl i x

/-- Tile 6 of the result block. -/
theorem store6_apply (w0 w1 : Vec F S2x512x2x256 .bf16) (x6 : Vec F S8x128 .f32) (x11 : Vec F S128x2x1024 .bf16) (v0 v1 : Vec F S1x512x2x256 .bf16)
    (h0 : ∀ y, v0 y = w1 (ix4 0 (y 1) (y 2) (y 3))) (h1 : ∀ y, v1 y = w1 (ix4 1 (y 1) (y 2) (y 3))) (i : ∀ a, (![0, 768] : Fin 2 → ℕ) a + S256x128.size a ≤ S256x1024.size a) (x : S256x128.Idx) :
    k0_pay270 (k0_pay252 x6) (k0_pay254 (k0_pay251 x6) k0_pay253 1#32) (k0_pay255 (iota .tc S8x128 32 [1] iota_S8x128_d1_w32)) k0_pay256 (k0_pay260 (iota .tc S256x128 32 [1] iota_S256x128_d1_w32)) (k0_pay262 x11 v0) (k0_pay263 x11 v1) x
      = outBlk x11 w0 w1 x6 ((Rect.unit (s := S256x1024) ![0, 768] S256x128.size i).emb x) := by
  show pick (k0_pay232 k0_pay229 k0_pay230 k0_pay231) (k0_pay234 (iota .tc S256x128 32 [1] iota_S256x128_d1_w32)) (scaled ![0, 128] ![6, 0] ![7, 0] slices_S256x256_o0_128_S256x128 slices_S8x128_o6_0_S1x128 slices_S8x128_o7_0_S1x128 k0_pay228 (k0_pay226 x6) (k0_pay262 x11 v0)) (scaled ![0, 128] ![6, 0] ![7, 0] slices_S256x256_o0_128_S256x128 slices_S8x128_o6_0_S1x128 slices_S8x128_o7_0_S1x128 k0_pay228 (k0_pay227 x6) (k0_pay263 x11 v1)) x = _
  rw [acc2_eq w1 x11 v0 h0, acc3_eq w1 x11 v1 h1]
  exact tile_apply x11 w0 w1 w1 x6 _ 6 128 6 0 (by decide) rfl rfl rfl rfl (fun j => by rw [Nat.zero_add]; exact patA_apply j) _ _ _ rfl i x

/-- Tile 7 of the result block. -/
theorem store7_apply (w0 w1 : Vec F S2x512x2x256 .bf16) (x6 : Vec F S8x128 .f32) (x11 : Vec F S128x2x1024 .bf16) (v0 v1 : Vec F S1x512x2x256 .bf16)
    (h0 : ∀ y, v0 y = w1 (ix4 0 (y 1) (y 2) (y 3))) (h1 : ∀ y, v1 y = w1 (ix4 1 (y 1) (y 2) (y 3))) (i : ∀ a, (![0, 896] : Fin 2 → ℕ) a + S256x128.size a ≤ S256x1024.size a) (x : S256x128.Idx) :
    k0_pay3 (k0_pay259 (iota .tc S256x128 32 [1] iota_S256x128_d1_w32) 2#32 k0_pay257 k0_pay258 (Scalar.extui (Scalar.cmpi .sgt 2#32 0#32)) 0#32) (k0_pay260 (iota .tc S256x128 32 [1] iota_S256x128_d1_w32)) (k0_pay268 (k0_pay252 x6) (k0_pay255 (iota .tc S8x128 32 [1] iota_S8x128_d1_w32)) (k0_pay262 x11 v0)) (k0_pay269 (k0_pay254 (k0_pay251 x6) k0_pay253 1#32) (k0_pay255 (iota .tc S8x128 32 [1] iota_S8x128_d1_w32)) (k0_pay263 x11 v1)) x
      = outBlk x11 w0 w1 x6 ((Rect.unit (s := S256x1024) ![0, 896] S256x128.size i).emb x) := by
  show pick (k0_pay233 (iota .tc S256x128 32 [1] iota_S256x128_d1_w32)) (k0_pay234 (iota .tc S256x128 32 [1] iota_S256x128_d1_w32)) (scaled ![0, 128] ![6, 0] ![7, 0] slices_S256x256_o0_128_S256x128 slices_S8x128_o6_0_S1x128 slices_S8x128_o7_0_S1x128 k0_pay228 (k0_pay226 x6) (k0_pay262 x11 v0)) (scaled ![0, 128] ![6, 0] ![7, 0] slices_S256x256_o0_128_S256x128 slices_S8x128_o6_0_S1x128 slices_S8x128_o7_0_S1x128 k0_pay228 (k0_pay227 x6) (k0_pay263 x11 v1)) x = _
  rw [acc2_eq w1 x11 v0 h0, acc3_eq w1 x11 v1 h1]
  exact tile_apply x11 w0 w1 w1 x6 _ 7 128 6 64 (by decide) rfl rfl rfl rfl patB_apply _ _ _ rfl i x

end Cert.Proof.Value

end
-- ==== Proof.Value.Prep.lean ====
/-
  The tables the kernel's first grid point prepares, read at an element: the row tables and the column tables hold the
  codebook's entries, the scale tables the blocks' scales, and the kept input the input with its rows in pairs.
-/
module

public import proofs.«01_k».proof.Proof.Value.Lookup

@[expose] public section

set_option maxRecDepth 16384

noncomputable section

namespace Cert.Proof.Value

open Cert.KernelIdeal Cert.KernelIdeal.Gen
open Idealize.ShloMosaic

variable {F : FTy → Type} [FloatOps F]

/-- The codebook's entry for a position of the pair, a block and a byte. -/
def cbOf (v : Vec F S2x4x256 .i8) : ℕ → ℕ → ℕ → BitVec 8 := fun p b e =>
  v (ix3 ⟨p % 2, Nat.mod_lt _ (by decide)⟩ ⟨b % 4, Nat.mod_lt _ (by decide)⟩ ⟨e % 256, Nat.mod_lt _ (by decide)⟩)

/-- The scale of a block. -/
def scOf (v : Vec F S1x4 .bf16) : ℕ → F .bf16 := fun b =>
  FloatOps.truncf .bf16 bitsLt_bf16_f32 (FloatOps.extf .f32 bitsLt_bf16_f32 (v (ix2 0 ⟨b % 4, Nat.mod_lt _ (by decide)⟩)))

/-- The input with its rows in pairs. -/
def pairUp (x : Vec F S256x1024 .bf16) : Vec F S128x2x1024 .bf16 := fun y =>
  x (ix2 ⟨2 * (y 0).val + (y 1).val, by have h0 : (y 0).val < 128 := (y 0).isLt; have h1 : (y 1).val < 2 := (y 1).isLt; omega⟩ (y 2))

/-- One block's row of a position of the pair, half of it, spread over 128 rows. -/
def spread (ob oh : Fin 2 → ℕ) (sb : S4x256.Slices ob S1x256) (sh : S1x256.Slices oh S1x128) (v6 : Vec F S1x4x256 .i8) : IVec S128x128 32 :=
  broadcastTo S128x128 (shapeCast S1x128 (extractStridedSlice S1x128 oh (extractStridedSlice S1x256 ob (extsi 32 (shapeCast S4x256 v6 shapeCasts_S1x4x256_S4x256) natLt_8_32) sb) sh) shapeCasts_S1x128_S1x128) broadcasts_S1x128_S128x128

/-- The spread row at an element. -/
theorem spread_apply (v6 : Vec F S1x4x256 .i8) (b h : ℕ) (sb) (sh) (hb : b < 4) (hh : h < 2) (j : S128x128.Idx) :
    spread ![b, 0] ![0, 128 * h] sb sh v6 j = BitVec.signExtend 32 (v6 (ix3 0 ⟨b, hb⟩ ⟨128 * h + (j 1).val, by have h1 : (j 1).val < 128 := (j 1).isLt; omega⟩)) := by
  unfold spread
  pointwise

/-- What is stored of the row tables. -/
theorem tabx_apply (u : IVec S128x128 32) (x : S1x1x1x32x128.Idx) :
    shapeCast S1x1x1x32x128 (trunci 8 (extractStridedSlice S32x128 ![0, 0] u slices_S128x128_o0_0_S32x128) natLt_8_32) shapeCasts_S32x128_S1x1x1x32x128 x
      = BitVec.setWidth 8 (u (ix2 ⟨(x 3).val, by have h : (x 3).val < 32 := (x 3).isLt; omega⟩ (x 4))) := by
  pointwise

/-- What is stored of the column tables. -/
theorem tabv_apply (u : IVec S128x128 32) (i : ℕ) (hi : i < 4) (si : S128x128.Slices ![32 * i, 0] S32x128) (x : S1x1x1x32x128.Idx) :
    shapeCast S1x1x1x32x128 (extractStridedSlice S32x128 ![32 * i, 0] (trunci 8 (transpose S128x128 [1, 0] u transposes_S128x128_p1_0_S128x128) natLt_8_32) si) shapeCasts_S32x128_S1x1x1x32x128 x
      = BitVec.setWidth 8 (u (ix2 (x 4) ⟨32 * i + (x 3).val, by have h : (x 3).val < 32 := (x 3).isLt; omega⟩)) := by
  pointwise

/-- What is stored of the scale tables. -/
theorem scl_apply (v : Vec F S1x4 .bf16) (b : ℕ) (hb : b < 4) (sb : S1x4.Slices ![0, b] S1x1) (x : S1x32x128.Idx) :
    shapeCast S1x32x128 (truncf .bf16 (broadcastTo S32x128 (shapeCast S1x1 (extractStridedSlice S1x1 ![0, b] (extf .f32 (shapeCast S1x4 v shapeCasts_S1x4_S1x4) bitsLt_bf16_f32) sb) shapeCasts_S1x1_S1x1) broadcasts_S1x1_S32x128) bitsLt_bf16_f32) shapeCasts_S32x128_S1x32x128 x
      = scOf v b := by
  unfold scOf
  pointwise
  have e : b % 4 = b := Nat.mod_eq_of_lt hb
  simp only [e]

/-- What is stored of the input. -/
theorem pairUp_apply (v : Vec F S256x1024 .bf16) : k0_pay1 (shapeCast S256x1024 v shapeCasts_S256x1024_S256x1024) = pairUp v := by
  funext y
  unfold k0_pay1 pairUp
  pointwise
  have h2 : (y 1).val < 2 := (y 1).isLt
  obtain h | h : (y 1).val = 0 ∨ (y 1).val = 1 := by omega
  · simp [h]
  · simp [h]

/-- The same of the input as the kernel keeps it. -/
theorem pairUp_kept (v : Vec F S256x1024 .bf16) : k0_pay1 (k0_pay167 v) = pairUp v := pairUp_apply v

/-! ### The tables, box by box -/

section Built
variable {s : Shape} {e : EltTy}

/-- The boxes stored so far are `G`'s, and they hold every entry whose key is below `n`. -/
def Built (G : s.Idx → Elt F e) (key : s.Idx → ℕ) (L : List (View.Piece (Elt F) s e)) (n : ℕ) : Prop :=
  (∀ p ∈ L, ∀ x : p.1.shape.Idx, p.2 x = G (p.1.emb x)) ∧ ∀ y : s.Idx, key y < n → ∃ p ∈ L, y ∈ p.1.set

/-- Nothing is stored yet. -/
theorem Built.nil (G : s.Idx → Elt F e) (key : s.Idx → ℕ) : Built G key [] 0 :=
  ⟨fun _ h => absurd h List.not_mem_nil, fun _ h => absurd h (Nat.not_lt_zero _)⟩

/-- One more box stored. -/
theorem Built.cons {G : s.Idx → Elt F e} {key : s.Idx → ℕ} {L : List (View.Piece (Elt F) s e)} {n : ℕ} {r : Rect s} {P : r.shape.Idx → Elt F e}
    (hP : ∀ x, P x = G (r.emb x)) (hk : ∀ y, key y = n → y ∈ r.set) (h : Built G key L n) : Built G key (⟨r, P⟩ :: L) (n + 1) := by
  refine ⟨fun p hp => ?_, fun y hy => ?_⟩
  · rcases List.mem_cons.1 hp with rfl | hp
    · exact hP
    · exact h.1 p hp
  · by_cases hn : key y = n
    · exact ⟨_, List.mem_cons_self, hk y hn⟩
    · obtain ⟨p, hp, hm⟩ := h.2 y (by omega)
      exact ⟨p, List.mem_cons_of_mem _ hp, hm⟩

/-- A buffer whose boxes are all stored reads as `G`. -/
theorem Built.read {G : s.Idx → Elt F e} {key : s.Idx → ℕ} {L : List (View.Piece (Elt F) s e)} {n : ℕ} {sp : Space} (arg : Memref sig .tc sp s e)
    (f : arg.view.ty.Contents (Elt F)) (h : Built G key L n) (hk : ∀ y, key y < n) (y : s.Idx) : arg.view.read (Elt F) (arg.view.writes (Elt F) f L) y = G y :=
  View.read_writes_apply_of_pieces _ _ G L h.1 y (h.2 y (hk y))

end Built

/-- the row tables' entries -/
def Gx (C : ℕ → ℕ → ℕ → BitVec 8) : S4x2x2x32x128.Idx → BitVec 8 := fun y => C (y 1).val (y 0).val (128 * (y 2).val + (y 4).val)
/-- the row tables' boxes in order -/
def keyX : S4x2x2x32x128.Idx → ℕ := fun y => 4 * (y 0).val + 2 * (y 1).val + (y 2).val
/-- the column tables' entries -/
def Gv (C : ℕ → ℕ → ℕ → BitVec 8) : S4x2x8x32x128.Idx → BitVec 8 := fun y => C (y 1).val (y 0).val (32 * (y 2).val + (y 3).val)
/-- the column tables' boxes in order -/
def keyV : S4x2x8x32x128.Idx → ℕ := fun y => 16 * (y 0).val + 8 * (y 1).val + (y 2).val
/-- the scale tables' entries -/
def Gs (sc : ℕ → F .bf16) : S4x32x128.Idx → F .bf16 := fun y => sc (y 0).val
/-- the scale tables' boxes in order -/
def keyS : S4x32x128.Idx → ℕ := fun y => (y 0).val

/-- One more box of the row tables. -/
theorem tabx_cons (C : ℕ → ℕ → ℕ → BitVec 8) (b p h n : ℕ) (hb : b < 4) (hp : p < 2) (hh : h < 2) (hn : n = 4 * b + 2 * p + h)
    {v6 : Vec F S1x4x256 .i8} (hv : ∀ y, v6 y = C p (y 1).val (y 2).val) {sb : S4x256.Slices ![b, 0] S1x256} {sh : S1x256.Slices ![0, 128 * h] S1x128}
    {i : ∀ a, (![b, p, h, 0, 0] : Fin 5 → ℕ) a + S1x1x1x32x128.size a ≤ S4x2x2x32x128.size a} {L} (hL : Built (F := F) (e := .i8) (Gx C) keyX L n) :
    Built (F := F) (e := .i8) (Gx C) keyX (⟨Rect.unit (s := S4x2x2x32x128) ![b, p, h, 0, 0] S1x1x1x32x128.size i,
      shapeCast S1x1x1x32x128 (trunci 8 (extractStridedSlice S32x128 ![0, 0] (spread ![b, 0] ![0, 128 * h] sb sh v6) slices_S128x128_o0_0_S32x128) natLt_8_32) shapeCasts_S32x128_S1x1x1x32x128⟩ :: L) (n + 1) := by
  refine Built.cons (fun x => ?_) (fun y hy => ?_) hL
  · have x0 : (x 0).val < 1 := (x 0).isLt
    have x1 : (x 1).val < 1 := (x 1).isLt
    have x2 : (x 2).val < 1 := (x 2).isLt
    rw [tabx_apply, spread_apply _ b h sb sh hb hh, word_byte, hv]
    show C p b (128 * h + (x 4).val) = C (p + 1 * (x 1).val) (b + 1 * (x 0).val) (128 * (h + 1 * (x 2).val) + (0 + 1 * (x 4).val))
    congr 1 <;> omega
  · have y0 : (y 0).val < 4 := (y 0).isLt
    have y1 : (y 1).val < 2 := (y 1).isLt
    have y2 : (y 2).val < 2 := (y 2).isLt
    have y3 : (y 3).val < 32 := (y 3).isLt
    have y4 : (y 4).val < 128 := (y 4).isLt
    unfold keyX at hy
    rw [Rect.mem_set_unit]
    intro a; fin_cases a <;> simp <;> omega

/-- One more box of the column tables. -/
theorem tabv_cons (C : ℕ → ℕ → ℕ → BitVec 8) (b p h j J n : ℕ) (hb : b < 4) (hp : p < 2) (hh : h < 2) (hj : j < 4) (hJ : J = 4 * h + j) (hn : n = 16 * b + 8 * p + J)
    {v6 : Vec F S1x4x256 .i8} (hv : ∀ y, v6 y = C p (y 1).val (y 2).val) {sb : S4x256.Slices ![b, 0] S1x256} {sh : S1x256.Slices ![0, 128 * h] S1x128} {sj : S128x128.Slices ![32 * j, 0] S32x128}
    {i : ∀ a, (![b, p, J, 0, 0] : Fin 5 → ℕ) a + S1x1x1x32x128.size a ≤ S4x2x8x32x128.size a} {L} (hL : Built (F := F) (e := .i8) (Gv C) keyV L n) :
    Built (F := F) (e := .i8) (Gv C) keyV (⟨Rect.unit (s := S4x2x8x32x128) ![b, p, J, 0, 0] S1x1x1x32x128.size i,
      shapeCast S1x1x1x32x128 (extractStridedSlice S32x128 ![32 * j, 0] (trunci 8 (transpose S128x128 [1, 0] (spread ![b, 0] ![0, 128 * h] sb sh v6) transposes_S128x128_p1_0_S128x128) natLt_8_32) sj) shapeCasts_S32x128_S1x1x1x32x128⟩ :: L) (n + 1) := by
  refine Built.cons (fun x => ?_) (fun y hy => ?_) hL
  · have x0 : (x 0).val < 1 := (x 0).isLt
    have x1 : (x 1).val < 1 := (x 1).isLt
    have x2 : (x 2).val < 1 := (x 2).isLt
    rw [tabv_apply _ j hj, spread_apply _ b h sb sh hb hh, word_byte, hv]
    show C p b (128 * h + (32 * j + (x 3).val)) = C (p + 1 * (x 1).val) (b + 1 * (x 0).val) (32 * (J + 1 * (x 2).val) + (0 + 1 * (x 3).val))
    congr 1 <;> omega
  · have y0 : (y 0).val < 4 := (y 0).isLt
    have y1 : (y 1).val < 2 := (y 1).isLt
    have y2 : (y 2).val < 8 := (y 2).isLt
    have y3 : (y 3).val < 32 := (y 3).isLt
    have y4 : (y 4).val < 128 := (y 4).isLt
    unfold keyV at hy
    rw [Rect.mem_set_unit]
    intro a; fin_cases a <;> simp <;> omega

/-- One more box of the scale tables. -/
theorem scl_cons (w : Vec F S1x4 .bf16) (b : ℕ) (hb : b < 4) {v : Vec F S1x4 .bf16} (hv : v = w) {sb : S1x4.Slices ![0, b] S1x1}
    {i : ∀ a, (![b, 0, 0] : Fin 3 → ℕ) a + S1x32x128.size a ≤ S4x32x128.size a} {L} (hL : Built (F := F) (e := .bf16) (Gs (scOf w)) keyS L b) :
    Built (F := F) (e := .bf16) (Gs (scOf w)) keyS (⟨Rect.unit (s := S4x32x128) ![b, 0, 0] S1x32x128.size i,
      shapeCast S1x32x128 (truncf .bf16 (broadcastTo S32x128 (shapeCast S1x1 (extractStridedSlice S1x1 ![0, b] (extf .f32 (shapeCast S1x4 v shapeCasts_S1x4_S1x4) bitsLt_bf16_f32) sb) shapeCasts_S1x1_S1x1) broadcasts_S1x1_S32x128) bitsLt_bf16_f32) shapeCasts_S32x128_S1x32x128⟩ :: L) (b + 1) := by
  subst hv
  refine Built.cons (fun x => ?_) (fun y hy => ?_) hL
  · have x0 : (x 0).val < 1 := (x 0).isLt
    rw [scl_apply _ b hb]
    show scOf v b = scOf v (b + 1 * (x 0).val)
    congr 1; omega
  · have y0 : (y 0).val < 4 := (y 0).isLt
    have y1 : (y 1).val < 32 := (y 1).isLt
    have y2 : (y 2).val < 128 := (y 2).isLt
    unfold keyS at hy
    rw [Rect.mem_set_unit]
    intro a; fin_cases a <;> simp <;> omega

/-- A position's block of the codebook, loaded. -/
theorem cb_apply (p : ℕ) (hp : p < 2) (arg : Memref sig .tc .vmem S2x4x256 .i8) (f : arg.view.ty.Contents (Elt F)) (i : ∀ a, (![p, 0, 0] : Fin 3 → ℕ) a + S1x4x256.size a ≤ S2x4x256.size a) (y : S1x4x256.Idx) :
    View.readAt (Elt F) arg.view (Rect.unit (s := S2x4x256) ![p, 0, 0] S1x4x256.size i).toLoadRect f y = cbOf (arg.view.read (Elt F) f) p (y 1).val (y 2).val := by
  have y0 : (y 0).val < 1 := (y 0).isLt
  have y1 : (y 1).val < 4 := (y 1).isLt
  have y2 : (y 2).val < 256 := (y 2).isLt
  unfold cbOf
  show arg.view.read (Elt F) f _ = _
  congr 1; funext a; apply Fin.ext
  fin_cases a
  · show p + 1 * (y 0).val = p % 2; omega
  · show 0 + 1 * (y 1).val = (y 1).val % 4; omega
  · show 0 + 1 * (y 2).val = (y 2).val % 256; omega

/-- The blocks' scales, loaded whole. -/
theorem whole5 (arg : Memref sig .tc .vmem S1x4 .bf16) (f : arg.view.ty.Contents (Elt F)) (i : ∀ a, (![0, 0] : Fin 2 → ℕ) a + S1x4.size a ≤ S1x4.size a) :
    View.readAt (Elt F) arg.view (Rect.unit (s := S1x4) ![0, 0] S1x4.size i).toLoadRect f = arg.view.read (Elt F) f := by
  funext y
  show arg.view.read (Elt F) f _ = _
  congr 1; funext a; apply Fin.ext
  fin_cases a
  · show 0 + 1 * (y 0).val = (y 0).val; omega
  · show 0 + 1 * (y 1).val = (y 1).val; omega

/-- The input, loaded whole. -/
theorem whole1 (arg : Memref sig .tc .vmem S256x1024 .bf16) (f : arg.view.ty.Contents (Elt F)) (i : ∀ a, (![0, 0] : Fin 2 → ℕ) a + S256x1024.size a ≤ S256x1024.size a) :
    View.readAt (Elt F) arg.view (Rect.unit (s := S256x1024) ![0, 0] S256x1024.size i).toLoadRect f = arg.view.read (Elt F) f := by
  funext y
  show arg.view.read (Elt F) f _ = _
  congr 1; funext a; apply Fin.ext
  fin_cases a
  · show 0 + 1 * (y 0).val = (y 0).val; omega
  · show 0 + 1 * (y 1).val = (y 1).val; omega

/-- The kept input, stored whole. -/
theorem read11 (arg : Memref sig .tc .vmem S128x2x1024 .bf16) (f : arg.view.ty.Contents (Elt F)) (i : ∀ a, (![0, 0, 0] : Fin 3 → ℕ) a + S128x2x1024.size a ≤ S128x2x1024.size a) (P : Vec F S128x2x1024 .bf16) :
    arg.view.read (Elt F) (arg.view.writes (Elt F) f [⟨Rect.unit (s := S128x2x1024) ![0, 0, 0] S128x2x1024.size i, P⟩]) = P := by
  funext y
  have y0 : (y 0).val < 128 := (y 0).isLt
  have y1 : (y 1).val < 2 := (y 1).isLt
  have y2 : (y 2).val < 1024 := (y 2).isLt
  refine View.read_writes_apply_of_pieces _ _ P _ (fun p hp x => ?_) y ⟨_, List.mem_cons_self, ?_⟩
  · rcases List.mem_singleton.1 hp with rfl
    show P x = P _
    congr 1; funext a; apply Fin.ext
    fin_cases a
    · show (x 0).val = 0 + 1 * (x 0).val; omega
    · show (x 1).val = 0 + 1 * (x 1).val; omega
    · show (x 2).val = 0 + 1 * (x 2).val; omega
  · rw [Rect.mem_set_unit]
    intro a; fin_cases a <;> simp <;> omega

end Cert.Proof.Value

end
-- ==== Proof.Value.Body.lean ====
/-
  The kernel's body at a grid point, with what its buffers hold: the first point prepares the tables, the input and the
  first weights; a later one looks the next weights up and stores a block of the product.
-/
module

public import proofs.«01_k».proof.Proof.Value.Loops
public import proofs.«01_k».proof.Proof.Value.Job
public import proofs.«01_k».proof.Proof.Value.Prep
public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weights of one position of the pairs, loaded. -/
theorem row0_apply (arg : Memref sig .tc .vmem S2x512x2x256 .bf16) (f : arg.view.ty.Contents (Elt F)) (i : ∀ a, (![0, 0, 0, 0] : Fin 4 → ℕ) a + S1x512x2x256.size a ≤ S2x512x2x256.size a) (y : S1x512x2x256.Idx) :
    View.readAt (Elt F) arg.view (Rect.unit (s := S2x512x2x256) ![0, 0, 0, 0] S1x512x2x256.size i).toLoadRect f y = arg.view.read (Elt F) f (ix4 0 (y 1) (y 2) (y 3)) := by
  have y0 : (y 0).val < 1 := (y 0).isLt
  show arg.view.read (Elt F) f _ = _
  congr 1; funext a; apply Fin.ext
  fin_cases a
  · show 0 + 1 * (y 0).val = 0; omega
  · show 0 + 1 * (y 1).val = (y 1).val; omega
  · show 0 + 1 * (y 2).val = (y 2).val; omega
  · show 0 + 1 * (y 3).val = (y 3).val; omega

/-- The weights of the other position of the pairs, loaded. -/
theorem row1_apply (arg : Memref sig .tc .vmem S2x512x2x256 .bf16) (f : arg.view.ty.Contents (Elt F)) (i : ∀ a, (![1, 0, 0, 0] : Fin 4 → ℕ) a + S1x512x2x256.size a ≤ S2x512x2x256.size a) (y : S1x512x2x256.Idx) :
    View.readAt (Elt F) arg.view (Rect.unit (s := S2x512x2x256) ![1, 0, 0, 0] S1x512x2x256.size i).toLoadRect f y = arg.view.read (Elt F) f (ix4 1 (y 1) (y 2) (y 3)) := by
  have y0 : (y 0).val < 1 := (y 0).isLt
  show arg.view.read (Elt F) f _ = _
  congr 1; funext a; apply Fin.ext
  fin_cases a
  · show 1 + 1 * (y 0).val = 1; omega
  · show 0 + 1 * (y 1).val = (y 1).val; omega
  · show 0 + 1 * (y 2).val = (y 2).val; omega
  · show 0 + 1 * (y 3).val = (y 3).val; omega

/-- The scales' block, loaded whole. -/
theorem whole6 (arg : Memref sig .tc .vmem S8x128 .f32) (f : arg.view.ty.Contents (Elt F)) (i : ∀ a, (![0, 0] : Fin 2 → ℕ) a + S8x128.size a ≤ S8x128.size a) :
    View.readAt (Elt F) arg.view (Rect.unit (s := S8x128) ![0, 0] S8x128.size i).toLoadRect f = arg.view.read (Elt F) f := by
  funext y
  show arg.view.read (Elt F) f _ = _
  congr 1; funext a; apply Fin.ext
  fin_cases a
  · show 0 + 1 * (y 0).val = (y 0).val; omega
  · show 0 + 1 * (y 1).val = (y 1).val; omega

/-- The kept input, loaded whole. -/
theorem whole11 (arg : Memref sig .tc .vmem S128x2x1024 .bf16) (f : arg.view.ty.Contents (Elt F)) (i : ∀ a, (![0, 0, 0] : Fin 3 → ℕ) a + S128x2x1024.size a ≤ S128x2x1024.size a) :
    View.readAt (Elt F) arg.view (Rect.unit (s := S128x2x1024) ![0, 0, 0] S128x2x1024.size i).toLoadRect f = arg.view.read (Elt F) f := by
  funext y
  show arg.view.read (Elt F) f _ = _
  congr 1; funext a; apply Fin.ext
  fin_cases a
  · show 0 + 1 * (y 0).val = (y 0).val; omega
  · show 0 + 1 * (y 1).val = (y 1).val; omega
  · show 0 + 1 * (y 2).val = (y 2).val; omega

set_option maxHeartbeats 800000 in
/-- A later grid point. -/
theorem body_later (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole)
    (h1 : ¬ k0_cond1 i = 1#1) (h3 : k0_cond3 i = 1#1) (C : ℕ → ℕ → ℕ → BitVec 8) (sc : ℕ → F .bf16) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ)))
    (hT : Tabs C sc (arg8.view.read (Elt F) f8) (arg9.view.read (Elt F) f9) (arg10.view.read (Elt F) f10)) (K : Unit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), (arg7.view.loc (c : Thread nD τ) ↦[arg7.view.set]{fullShare} g)) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (∃ g : Buf (Elt F) (arg13.view.loc (c : Thread nD τ)), (arg13.view.loc (c : Thread nD τ) ↦[arg13.view.set]{fullShare} g))
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (∃ g : Buf (Elt F) (arg7.view.loc (c : Thread nD τ)), ⌜arg7.view.read (Elt F) g = outBlk (arg11.view.read (Elt F) f11) (arg12.view.read (Elt F) f12) (wval C sc (arg2.view.read (Elt F) f2)) (arg6.view.read (Elt F) f6)⌝ ∗ (arg7.view.loc (c : Thread nD τ) ↦[arg7.view.set]{fullShare} g)) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (∃ g : Buf (Elt F) (arg12.view.loc (c : Thread nD τ)), ⌜arg12.view.read (Elt F) g = wval C sc (arg3.view.read (Elt F) f3)⌝ ∗ (arg12.view.loc (c : Thread nD τ) ↦[arg12.view.set]{fullShare} g)) ∗ (∃ g : Buf (Elt F) (arg13.view.loc (c : Thread nD τ)), (arg13.view.loc (c : Thread nD τ) ↦[arg13.view.set]{fullShare} g))) -∗ K ⟨⟩))
      ⊢ wp frame (wpE (defs₀ (F := F)) 𝒱₀ (c : Thread nD τ) none) Set.univ (cc0_vq_linear i arg1 harg1 arg2 harg2 arg3 harg3 arg4 harg4 arg5 harg5 arg6 harg6 arg7 harg7 arg8 harg8 arg9 harg9 arg10 harg10 arg11 harg11 arg12 harg12 arg13 harg13) K) := by
  iintro ⟨H1, H2, H3, H4, H5, H6, ⟨%g7, H7⟩, H8, H9, H10, H11, H12, ⟨%g13, H13⟩, Hk⟩
  have hz13 : Done C sc (arg2.view.read (Elt F) f2) 0 (arg13.view.read (Elt F) g13) := Done.zero _ _ _ _
  have hz12 : Done C sc (arg3.view.read (Elt F) f3) 0 (arg12.view.read (Elt F) f12) := Done.zero _ _ _ _
  sl_unfold [cc0_vq_linear]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _
    isplitr
    swap; · iexact H7
    ipureintro
    rw [← Done.all hL4]
    funext y
    refine View.read_writes_apply_of_pieces _ _ (outBlk (arg11.view.read (Elt F) f11) (arg12.view.read (Elt F) f12) (arg13.view.read (Elt F) gL0) (arg6.view.read (Elt F) f6)) _ ?_ y ?_
    · intro p hp x
      simp only [List.mem_cons, List.not_mem_nil, or_false] at hp
      rcases hp with rfl | rfl | rfl | rfl | rfl | rfl | rfl | rfl
      · exact (store7_apply (arg12.view.read (Elt F) f12) (arg13.view.read (Elt F) gL0) _ _ _ _ (fun y => row0_apply arg13 _ _ y) (fun y => row1_apply arg13 _ _ y) _ x).trans (by rw [whole6, whole11])
      · exact (store6_apply (arg12.view.read (Elt F) f12) (arg13.view.read (Elt F) gL0) _ _ _ _ (fun y => row0_apply arg13 _ _ y) (fun y => row1_apply arg13 _ _ y) _ x).trans (by rw [whole6, whole11])
      · exact (store5_apply (arg12.view.read (Elt F) f12) (arg13.view.read (Elt F) gL0) _ _ _ _ (fun y => row0_apply arg13 _ _ y) (fun y => row1_apply arg13 _ _ y) _ x).trans (by rw [whole6, whole11])
      · exact (store4_apply (arg12.view.read (Elt F) f12) (arg13.view.read (Elt F) gL0) _ _ _ _ (fun y => row0_apply arg13 _ _ y) (fun y => row1_apply arg13 _ _ y) _ x).trans (by rw [whole6, whole11])
      · exact (store3_apply (arg12.view.read (Elt F) f12) (arg13.view.read (Elt F) gL0) _ _ _ _ (fun y => row0_apply arg12 _ _ y) (fun y => row1_apply arg12 _ _ y) _ x).trans (by rw [whole6, whole11])
      · exact (store2_apply (arg12.view.read (Elt F) f12) (arg13.view.read (Elt F) gL0) _ _ _ _ (fun y => row0_apply arg12 _ _ y) (fun y => row1_apply arg12 _ _ y) _ x).trans (by rw [whole6, whole11])
      · exact (store1_apply (arg12.view.read (Elt F) f12) (arg13.view.read (Elt F) gL0) _ _ _ _ (fun y => row0_apply arg12 _ _ y) (fun y => row1_apply arg12 _ _ y) _ x).trans (by rw [whole6, whole11])
      · exact (store0_apply (arg12.view.read (Elt F) f12) (arg13.view.read (Elt F) gL0) _ _ _ _ (fun y => row0_apply arg12 _ _ y) (fun y => row1_apply arg12 _ _ y) _ x).trans (by rw [whole6, whole11])
    · have y0 : (y 0).val < 256 := (y 0).isLt
      have y1 : (y 1).val < 1024 := (y 1).isLt
      rcases (by omega : (y 1).val / 128 = 7 ∨ (y 1).val / 128 = 6 ∨ (y 1).val / 128 = 5 ∨ (y 1).val / 128 = 4 ∨ (y 1).val / 128 = 3 ∨ (y 1).val / 128 = 2 ∨ (y 1).val / 128 = 1 ∨ (y 1).val / 128 = 0) with h | h | h | h | h | h | h | h
      · refine ⟨_, List.mem_cons_self, ?_⟩
        rw [Rect.mem_set_unit]; intro a; fin_cases a <;> simp <;> omega
      · refine ⟨_, List.mem_cons_of_mem _ (List.mem_cons_self), ?_⟩
        rw [Rect.mem_set_unit]; intro a; fin_cases a <;> simp <;> omega
      · refine ⟨_, List.mem_cons_of_mem _ (List.mem_cons_of_mem _ (List.mem_cons_self)), ?_⟩
        rw [Rect.mem_set_unit]; intro a; fin_cases a <;> simp <;> omega
      · refine ⟨_, List.mem_cons_of_mem _ (List.mem_cons_of_mem _ (List.mem_cons_of_mem _ (List.mem_cons_self))), ?_⟩
        rw [Rect.mem_set_unit]; intro a; fin_cases a <;> simp <;> omega
      · refine ⟨_, List.mem_cons_of_mem _ (List.mem_cons_of_mem _ (List.mem_cons_of_mem _ (List.mem_cons_of_mem _ (List.mem_cons_self)))), ?_⟩
        rw [Rect.mem_set_unit]; intro a; fin_cases a <;> simp <;> omega
      · refine ⟨_, List.mem_cons_of_mem _ (List.mem_cons_of_mem _ (List.mem_cons_of_mem _ (List.mem_cons_of_mem _ (List.mem_cons_of_mem _ (List.mem_cons_self))))), ?_⟩
        rw [Rect.mem_set_unit]; intro a; fin_cases a <;> simp <;> omega
      · refine ⟨_, List.mem_cons_of_mem _ (List.mem_cons_of_mem _ (List.mem_cons_of_mem _ (List.mem_cons_of_mem _ (List.mem_cons_of_mem _ (List.mem_cons_of_mem _ (List.mem_cons_self)))))), ?_⟩
        rw [Rect.mem_set_unit]; intro a; fin_cases a <;> simp <;> omega
      · refine ⟨_, List.mem_cons_of_mem _ (List.mem_cons_of_mem _ (List.mem_cons_of_mem _ (List.mem_cons_of_mem _ (List.mem_cons_of_mem _ (List.mem_cons_of_mem _ (List.mem_cons_of_mem _ (List.mem_cons_self))))))), ?_⟩
        rw [Rect.mem_set_unit]; intro a; fin_cases a <;> simp <;> omega
  isplitl [H8]; · iexact H8
  isplitl [H9]; · iexact H9
  isplitl [H10]; · iexact H10
  isplitl [H11]; · iexact H11
  isplitl [H12]
  · iexists _
    isplitr
    swap; · iexact H12
    ipureintro
    exact Done.all hL10
  iexists _
  iexact H13

set_option maxHeartbeats 800000 in
/-- The first grid point: the operand blocks are kept, the tables are the codebook's and the scales', the kept input is
    the input with its rows in pairs, and the first weights are in place. -/
theorem body_first (c : Dev nD) (i : grid0.Coords) (arg1 : Memref sig .tc .vmem S256x1024 .bf16) (harg1 : arg1.IsWhole) (arg2 : Memref sig .tc .vmem S1024x256 .i8) (harg2 : arg2.IsWhole) (arg3 : Memref sig .tc .vmem S1024x256 .i8) (harg3 : arg3.IsWhole) (arg4 : Memref sig .tc .vmem S2x4x256 .i8) (harg4 : arg4.IsWhole) (arg5 : Memref sig .tc .vmem S1x4 .bf16) (harg5 : arg5.IsWhole) (arg6 : Memref sig .tc .vmem S8x128 .f32) (harg6 : arg6.IsWhole) (arg7 : Memref sig .tc .vmem S256x1024 .bf16) (harg7 : arg7.IsWhole) (arg8 : Memref sig .tc .vmem S4x2x2x32x128 .i8) (harg8 : arg8.IsWhole) (arg9 : Memref sig .tc .vmem S4x2x8x32x128 .i8) (harg9 : arg9.IsWhole) (arg10 : Memref sig .tc .vmem S4x32x128 .bf16) (harg10 : arg10.IsWhole) (arg11 : Memref sig .tc .vmem S128x2x1024 .bf16) (harg11 : arg11.IsWhole) (arg12 : Memref sig .tc .vmem S2x512x2x256 .bf16) (harg12 : arg12.IsWhole) (arg13 : Memref sig .tc .vmem S2x512x2x256 .bf16) (harg13 : arg13.IsWhole)
    (h1 : k0_cond1 i = 1#1) (h3 : ¬ k0_cond3 i = 1#1) (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (K : PUnit → sProp 𝕄) :
    (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ g : Buf (Elt F) (arg8.view.loc (c : Thread nD τ)), (arg8.view.loc (c : Thread nD τ) ↦[arg8.view.set]{fullShare} g)) ∗ (∃ g : Buf (Elt F) (arg9.view.loc (c : Thread nD τ)), (arg9.view.loc (c : Thread nD τ) ↦[arg9.view.set]{fullShare} g)) ∗ (∃ g : Buf (Elt F) (arg10.view.loc (c : Thread nD τ)), (arg10.view.loc (c : Thread nD τ) ↦[arg10.view.set]{fullShare} g)) ∗ (∃ g : Buf (Elt F) (arg11.view.loc (c : Thread nD τ)), (arg11.view.loc (c : Thread nD τ) ↦[arg11.view.set]{fullShare} g)) ∗ (∃ g : Buf (Elt F) (arg12.view.loc (c : Thread nD τ)), (arg12.view.loc (c : Thread nD τ) ↦[arg12.view.set]{fullShare} g)) ∗ (∃ g : Buf (Elt F) (arg13.view.loc (c : Thread nD τ)), (arg13.view.loc (c : Thread nD τ) ↦[arg13.view.set]{fullShare} g))
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f8, ∃ f9, ∃ f10, ⌜Tabs (cbOf (arg4.view.read (Elt F) f4)) (scOf (arg5.view.read (Elt F) f5)) (arg8.view.read (Elt F) f8) (arg9.view.read (Elt F) f9) (arg10.view.read (Elt F) f10)⌝ ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ (∃ f11, ⌜arg11.view.read (Elt F) f11 = pairUp (arg1.view.read (Elt F) f1)⌝ ∗ (arg11.view.loc (c : Thread nD τ) ↦[arg11.view.set]{fullShare} f11)) ∗ (∃ f12, ⌜arg12.view.read (Elt F) f12 = wval (cbOf (arg4.view.read (Elt F) f4)) (scOf (arg5.view.read (Elt F) f5)) (arg3.view.read (Elt F) f3)⌝ ∗ (arg12.view.loc (c : Thread nD τ) ↦[arg12.view.set]{fullShare} f12)) ∗ (∃ g, (arg13.view.loc (c : Thread nD τ) ↦[arg13.view.set]{fullShare} g))) -∗ K ⟨⟩)) : sProp 𝕄)
      ⊢ wp frame (wpE (defs₀ (F := F)) 𝒱₀ (c : Thread nD τ) none) Set.univ (cc0_vq_linear i arg1 harg1 arg2 harg2 arg3 harg3 arg4 harg4 arg5 harg5 arg6 harg6 arg7 harg7 arg8 harg8 arg9 harg9 arg10 harg10 arg11 harg11 arg12 harg12 arg13 harg13) K := by
  iintro ⟨H1, H2, H3, H4, H5, H6, H7, ⟨%g8, H8⟩, ⟨%g9, H9⟩, ⟨%g10, H10⟩, ⟨%g11, H11⟩, ⟨%g12, H12⟩, ⟨%g13, H13⟩, Hk⟩
  have hz12 : Done (cbOf (arg4.view.read (Elt F) f4)) (scOf (arg5.view.read (Elt F) f5)) (arg3.view.read (Elt F) f3) 0 (arg12.view.read (Elt F) g12) := Done.zero _ _ _ _
  sl_unfold [cc0_vq_linear]
  sl_exec_parts
  have hX : Built (F := F) (e := .i8) (Gx (cbOf (arg4.view.read (Elt F) f4))) keyX (body_first.sl.H8_16 c arg4 f4) 16 := by
    refine tabx_cons (sb := by decide) (sh := by decide) _ 3 1 1 15 (by decide) (by decide) (by decide) rfl (fun y => cb_apply 1 (by decide) arg4 f4 _ y) ?_
    refine tabx_cons (sb := by decide) (sh := by decide) _ 3 1 0 14 (by decide) (by decide) (by decide) rfl (fun y => cb_apply 1 (by decide) arg4 f4 _ y) ?_
    refine tabx_cons (sb := by decide) (sh := by decide) _ 3 0 1 13 (by decide) (by decide) (by decide) rfl (fun y => cb_apply 0 (by decide) arg4 f4 _ y) ?_
    refine tabx_cons (sb := by decide) (sh := by decide) _ 3 0 0 12 (by decide) (by decide) (by decide) rfl (fun y => cb_apply 0 (by decide) arg4 f4 _ y) ?_
    refine tabx_cons (sb := by decide) (sh := by decide) _ 2 1 1 11 (by decide) (by decide) (by decide) rfl (fun y => cb_apply 1 (by decide) arg4 f4 _ y) ?_
    refine tabx_cons (sb := by decide) (sh := by decide) _ 2 1 0 10 (by decide) (by decide) (by decide) rfl (fun y => cb_apply 1 (by decide) arg4 f4 _ y) ?_
    refine tabx_cons (sb := by decide) (sh := by decide) _ 2 0 1 9 (by decide) (by decide) (by decide) rfl (fun y => cb_apply 0 (by decide) arg4 f4 _ y) ?_
    refine tabx_cons (sb := by decide) (sh := by decide) _ 2 0 0 8 (by decide) (by decide) (by decide) rfl (fun y => cb_apply 0 (by decide) arg4 f4 _ y) ?_
    refine tabx_cons (sb := by decide) (sh := by decide) _ 1 1 1 7 (by decide) (by decide) (by decide) rfl (fun y => cb_apply 1 (by decide) arg4 f4 _ y) ?_
    refine tabx_cons (sb := by decide) (sh := by decide) _ 1 1 0 6 (by decide) (by decide) (by decide) rfl (fun y => cb_apply 1 (by decide) arg4 f4 _ y) ?_
    refine tabx_cons (sb := by decide) (sh := by decide) _ 1 0 1 5 (by decide) (by decide) (by decide) rfl (fun y => cb_apply 0 (by decide) arg4 f4 _ y) ?_
    refine tabx_cons (sb := by decide) (sh := by decide) _ 1 0 0 4 (by decide) (by decide) (by decide) rfl (fun y => cb_apply 0 (by decide) arg4 f4 _ y) ?_
    refine tabx_cons (sb := by decide) (sh := by decide) _ 0 1 1 3 (by decide) (by decide) (by decide) rfl (fun y => cb_apply 1 (by decide) arg4 f4 _ y) ?_
    refine tabx_cons (sb := by decide) (sh := by decide) _ 0 1 0 2 (by decide) (by decide) (by decide) rfl (fun y => cb_apply 1 (by decide) arg4 f4 _ y) ?_
    refine tabx_cons (sb := by decide) (sh := by decide) _ 0 0 1 1 (by decide) (by decide) (by decide) rfl (fun y => cb_apply 0 (by decide) arg4 f4 _ y) ?_
    refine tabx_cons (sb := by decide) (sh := by decide) _ 0 0 0 0 (by decide) (by decide) (by decide) rfl (fun y => cb_apply 0 (by decide) arg4 f4 _ y) ?_
    exact Built.nil _ _
  have hV : Built (F := F) (e := .i8) (Gv (cbOf (arg4.view.read (Elt F) f4))) keyV (body_first.sl.H9_64 c arg4 f4) 64 := by
    refine tabv_cons (sb := by decide) (sh := by decide) (sj := by decide) _ 3 1 1 3 7 63 (by decide) (by decide) (by decide) (by decide) rfl rfl (fun y => cb_apply 1 (by decide) arg4 f4 _ y) ?_
    refine tabv_cons (sb := by decide) (sh := by decide) (sj := by decide) _ 3 1 1 2 6 62 (by decide) (by decide) (by decide) (by decide) rfl rfl (fun y => cb_apply 1 (by decide) arg4 f4 _ y) ?_
    refine tabv_cons (sb := by decide) (sh := by decide) (sj := by decide) _ 3 1 1 1 5 61 (by decide) (by decide) (by decide) (by decide) rfl rfl (fun y => cb_apply 1 (by decide) arg4 f4 _ y) ?_
    refine tabv_cons (sb := by decide) (sh := by decide) (sj := by decide) _ 3 1 1 0 4 60 (by decide) (by decide) (by decide) (by decide) rfl rfl (fun y => cb_apply 1 (by decide) arg4 f4 _ y) ?_
    refine tabv_cons (sb := by decide) (sh := by decide) (sj := by decide) _ 3 1 0 3 3 59 (by decide) (by decide) (by decide) (by decide) rfl rfl (fun y => cb_apply 1 (by decide) arg4 f4 _ y) ?_
    refine tabv_cons (sb := by decide) (sh := by decide) (sj := by decide) _ 3 1 0 2 2 58 (by decide) (by decide) (by decide) (by decide) rfl rfl (fun y => cb_apply 1 (by decide) arg4 f4 _ y) ?_
    refine tabv_cons (sb := by decide) (sh := by decide) (sj := by decide) _ 3 1 0 1 1 57 (by decide) (by decide) (by decide) (by decide) rfl rfl (fun y => cb_apply 1 (by decide) arg4 f4 _ y) ?_
    refine tabv_cons (sb := by decide) (sh := by decide) (sj := by decide) _ 3 1 0 0 0 56 (by decide) (by decide) (by decide) (by decide) rfl rfl (fun y => cb_apply 1 (by decide) arg4 f4 _ y) ?_
    refine tabv_cons (sb := by decide) (sh := by decide) (sj := by decide) _ 3 0 1 3 7 55 (by decide) (by decide) (by decide) (by decide) rfl rfl (fun y => cb_apply 0 (by decide) arg4 f4 _ y) ?_
    refine tabv_cons (sb := by decide) (sh := by decide) (sj := by decide) _ 3 0 1 2 6 54 (by decide) (by decide) (by decide) (by decide) rfl rfl (fun y => cb_apply 0 (by decide) arg4 f4 _ y) ?_
    refine tabv_cons (sb := by decide) (sh := by decide) (sj := by decide) _ 3 0 1 1 5 53 (by decide) (by decide) (by decide) (by decide) rfl rfl (fun y => cb_apply 0 (by decide) arg4 f4 _ y) ?_
    refine tabv_cons (sb := by decide) (sh := by decide) (sj := by decide) _ 3 0 1 0 4 52 (by decide) (by decide) (by decide) (by decide) rfl rfl (fun y => cb_apply 0 (by decide) arg4 f4 _ y) ?_
    refine tabv_cons (sb := by decide) (sh := by decide) (sj := by decide) _ 3 0 0 3 3 51 (by decide) (by decide) (by decide) (by decide) rfl rfl (fun y => cb_apply 0 (by decide) arg4 f4 _ y) ?_
    refine tabv_cons (sb := by decide) (sh := by decide) (sj := by decide) _ 3 0 0 2 2 50 (by decide) (by decide) (by decide) (by decide) rfl rfl (fun y => cb_apply 0 (by decide) arg4 f4 _ y) ?_
    refine tabv_cons (sb := by decide) (sh := by decide) (sj := by decide) _ 3 0 0 1 1 49 (by decide) (by decide) (by decide) (by decide) rfl rfl (fun y => cb_apply 0 (by decide) arg4 f4 _ y) ?_
    refine tabv_cons (sb := by decide) (sh := by decide) (sj := by decide) _ 3 0 0 0 0 48 (by decide) (by decide) (by decide) (by decide) rfl rfl (fun y => cb_apply 0 (by decide) arg4 f4 _ y) ?_
    refine tabv_cons (sb := by decide) (sh := by decide) (sj := by decide) _ 2 1 1 3 7 47 (by decide) (by decide) (by decide) (by decide) rfl rfl (fun y => cb_apply 1 (by decide) arg4 f4 _ y) ?_
    refine tabv_cons (sb := by decide) (sh := by decide) (sj := by decide) _ 2 1 1 2 6 46 (by decide) (by decide) (by decide) (by decide) rfl rfl (fun y => cb_apply 1 (by decide) arg4 f4 _ y) ?_
    refine tabv_cons (sb := by decide) (sh := by decide) (sj := by decide) _ 2 1 1 1 5 45 (by decide) (by decide) (by decide) (by decide) rfl rfl (fun y => cb_apply 1 (by decide) arg4 f4 _ y) ?_
    refine tabv_cons (sb := by decide) (sh := by decide) (sj := by decide) _ 2 1 1 0 4 44 (by decide) (by decide) (by decide) (by decide) rfl rfl (fun y => cb_apply 1 (by decide) arg4 f4 _ y) ?_
    refine tabv_cons (sb := by decide) (sh := by decide) (sj := by decide) _ 2 1 0 3 3 43 (by decide) (by decide) (by decide) (by decide) rfl rfl (fun y => cb_apply 1 (by decide) arg4 f4 _ y) ?_
    refine tabv_cons (sb := by decide) (sh := by decide) (sj := by decide) _ 2 1 0 2 2 42 (by decide) (by decide) (by decide) (by decide) rfl rfl (fun y => cb_apply 1 (by decide) arg4 f4 _ y) ?_
    refine tabv_cons (sb := by decide) (sh := by decide) (sj := by decide) _ 2 1 0 1 1 41 (by decide) (by decide) (by decide) (by decide) rfl rfl (fun y => cb_apply 1 (by decide) arg4 f4 _ y) ?_
    refine tabv_cons (sb := by decide) (sh := by decide) (sj := by decide) _ 2 1 0 0 0 40 (by decide) (by decide) (by decide) (by decide) rfl rfl (fun y => cb_apply 1 (by decide) arg4 f4 _ y) ?_
    refine tabv_cons (sb := by decide) (sh := by decide) (sj := by decide) _ 2 0 1 3 7 39 (by decide) (by decide) (by decide) (by decide) rfl rfl (fun y => cb_apply 0 (by decide) arg4 f4 _ y) ?_
    refine tabv_cons (sb := by decide) (sh := by decide) (sj := by decide) _ 2 0 1 2 6 38 (by decide) (by decide) (by decide) (by decide) rfl rfl (fun y => cb_apply 0 (by decide) arg4 f4 _ y) ?_
    refine tabv_cons (sb := by decide) (sh := by decide) (sj := by decide) _ 2 0 1 1 5 37 (by decide) (by decide) (by decide) (by decide) rfl rfl (fun y => cb_apply 0 (by decide) arg4 f4 _ y) ?_
    refine tabv_cons (sb := by decide) (sh := by decide) (sj := by decide) _ 2 0 1 0 4 36 (by decide) (by decide) (by decide) (by decide) rfl rfl (fun y => cb_apply 0 (by decide) arg4 f4 _ y) ?_
    refine tabv_cons (sb := by decide) (sh := by decide) (sj := by decide) _ 2 0 0 3 3 35 (by decide) (by decide) (by decide) (by decide) rfl rfl (fun y => cb_apply 0 (by decide) arg4 f4 _ y) ?_
    refine tabv_cons (sb := by decide) (sh := by decide) (sj := by decide) _ 2 0 0 2 2 34 (by decide) (by decide) (by decide) (by decide) rfl rfl (fun y => cb_apply 0 (by decide) arg4 f4 _ y) ?_
    refine tabv_cons (sb := by decide) (sh := by decide) (sj := by decide) _ 2 0 0 1 1 33 (by decide) (by decide) (by decide) (by decide) rfl rfl (fun y => cb_apply 0 (by decide) arg4 f4 _ y) ?_
    refine tabv_cons (sb := by decide) (sh := by decide) (sj := by decide) _ 2 0 0 0 0 32 (by decide) (by decide) (by decide) (by decide) rfl rfl (fun y => cb_apply 0 (by decide) arg4 f4 _ y) ?_
    refine tabv_cons (sb := by decide) (sh := by decide) (sj := by decide) _ 1 1 1 3 7 31 (by decide) (by decide) (by decide) (by decide) rfl rfl (fun y => cb_apply 1 (by decide) arg4 f4 _ y) ?_
    refine tabv_cons (sb := by decide) (sh := by decide) (sj := by decide) _ 1 1 1 2 6 30 (by decide) (by decide) (by decide) (by decide) rfl rfl (fun y => cb_apply 1 (by decide) arg4 f4 _ y) ?_
    refine tabv_cons (sb := by decide) (sh := by decide) (sj := by decide) _ 1 1 1 1 5 29 (by decide) (by decide) (by decide) (by decide) rfl rfl (fun y => cb_apply 1 (by decide) arg4 f4 _ y) ?_
    refine tabv_cons (sb := by decide) (sh := by decide) (sj := by decide) _ 1 1 1 0 4 28 (by decide) (by decide) (by decide) (by decide) rfl rfl (fun y => cb_apply 1 (by decide) arg4 f4 _ y) ?_
    refine tabv_cons (sb := by decide) (sh := by decide) (sj := by decide) _ 1 1 0 3 3 27 (by decide) (by decide) (by decide) (by decide) rfl rfl (fun y => cb_apply 1 (by decide) arg4 f4 _ y) ?_
    refine tabv_cons (sb := by decide) (sh := by decide) (sj := by decide) _ 1 1 0 2 2 26 (by decide) (by decide) (by decide) (by decide) rfl rfl (fun y => cb_apply 1 (by decide) arg4 f4 _ y) ?_
    refine tabv_cons (sb := by decide) (sh := by decide) (sj := by decide) _ 1 1 0 1 1 25 (by decide) (by decide) (by decide) (by decide) rfl rfl (fun y => cb_apply 1 (by decide) arg4 f4 _ y) ?_
    refine tabv_cons (sb := by decide) (sh := by decide) (sj := by decide) _ 1 1 0 0 0 24 (by decide) (by decide) (by decide) (by decide) rfl rfl (fun y => cb_apply 1 (by decide) arg4 f4 _ y) ?_
    refine tabv_cons (sb := by decide) (sh := by decide) (sj := by decide) _ 1 0 1 3 7 23 (by decide) (by decide) (by decide) (by decide) rfl rfl (fun y => cb_apply 0 (by decide) arg4 f4 _ y) ?_
    refine tabv_cons (sb := by decide) (sh := by decide) (sj := by decide) _ 1 0 1 2 6 22 (by decide) (by decide) (by decide) (by decide) rfl rfl (fun y => cb_apply 0 (by decide) arg4 f4 _ y) ?_
    refine tabv_cons (sb := by decide) (sh := by decide) (sj := by decide) _ 1 0 1 1 5 21 (by decide) (by decide) (by decide) (by decide) rfl rfl (fun y => cb_apply 0 (by decide) arg4 f4 _ y) ?_
    refine tabv_cons (sb := by decide) (sh := by decide) (sj := by decide) _ 1 0 1 0 4 20 (by decide) (by decide) (by decide) (by decide) rfl rfl (fun y => cb_apply 0 (by decide) arg4 f4 _ y) ?_
    refine tabv_cons (sb := by decide) (sh := by decide) (sj := by decide) _ 1 0 0 3 3 19 (by decide) (by decide) (by decide) (by decide) rfl rfl (fun y => cb_apply 0 (by decide) arg4 f4 _ y) ?_
    refine tabv_cons (sb := by decide) (sh := by decide) (sj := by decide) _ 1 0 0 2 2 18 (by decide) (by decide) (by decide) (by decide) rfl rfl (fun y => cb_apply 0 (by decide) arg4 f4 _ y) ?_
    refine tabv_cons (sb := by decide) (sh := by decide) (sj := by decide) _ 1 0 0 1 1 17 (by decide) (by decide) (by decide) (by decide) rfl rfl (fun y => cb_apply 0 (by decide) arg4 f4 _ y) ?_
    refine tabv_cons (sb := by decide) (sh := by decide) (sj := by decide) _ 1 0 0 0 0 16 (by decide) (by decide) (by decide) (by decide) rfl rfl (fun y => cb_apply 0 (by decide) arg4 f4 _ y) ?_
    refine tabv_cons (sb := by decide) (sh := by decide) (sj := by decide) _ 0 1 1 3 7 15 (by decide) (by decide) (by decide) (by decide) rfl rfl (fun y => cb_apply 1 (by decide) arg4 f4 _ y) ?_
    refine tabv_cons (sb := by decide) (sh := by decide) (sj := by decide) _ 0 1 1 2 6 14 (by decide) (by decide) (by decide) (by decide) rfl rfl (fun y => cb_apply 1 (by decide) arg4 f4 _ y) ?_
    refine tabv_cons (sb := by decide) (sh := by decide) (sj := by decide) _ 0 1 1 1 5 13 (by decide) (by decide) (by decide) (by decide) rfl rfl (fun y => cb_apply 1 (by decide) arg4 f4 _ y) ?_
    refine tabv_cons (sb := by decide) (sh := by decide) (sj := by decide) _ 0 1 1 0 4 12 (by decide) (by decide) (by decide) (by decide) rfl rfl (fun y => cb_apply 1 (by decide) arg4 f4 _ y) ?_
    refine tabv_cons (sb := by decide) (sh := by decide) (sj := by decide) _ 0 1 0 3 3 11 (by decide) (by decide) (by decide) (by decide) rfl rfl (fun y => cb_apply 1 (by decide) arg4 f4 _ y) ?_
    refine tabv_cons (sb := by decide) (sh := by decide) (sj := by decide) _ 0 1 0 2 2 10 (by decide) (by decide) (by decide) (by decide) rfl rfl (fun y => cb_apply 1 (by decide) arg4 f4 _ y) ?_
    refine tabv_cons (sb := by decide) (sh := by decide) (sj := by decide) _ 0 1 0 1 1 9 (by decide) (by decide) (by decide) (by decide) rfl rfl (fun y => cb_apply 1 (by decide) arg4 f4 _ y) ?_
    refine tabv_cons (sb := by decide) (sh := by decide) (sj := by decide) _ 0 1 0 0 0 8 (by decide) (by decide) (by decide) (by decide) rfl rfl (fun y => cb_apply 1 (by decide) arg4 f4 _ y) ?_
    refine tabv_cons (sb := by decide) (sh := by decide) (sj := by decide) _ 0 0 1 3 7 7 (by decide) (by decide) (by decide) (by decide) rfl rfl (fun y => cb_apply 0 (by decide) arg4 f4 _ y) ?_
    refine tabv_cons (sb := by decide) (sh := by decide) (sj := by decide) _ 0 0 1 2 6 6 (by decide) (by decide) (by decide) (by decide) rfl rfl (fun y => cb_apply 0 (by decide) arg4 f4 _ y) ?_
    refine tabv_cons (sb := by decide) (sh := by decide) (sj := by decide) _ 0 0 1 1 5 5 (by decide) (by decide) (by decide) (by decide) rfl rfl (fun y => cb_apply 0 (by decide) arg4 f4 _ y) ?_
    refine tabv_cons (sb := by decide) (sh := by decide) (sj := by decide) _ 0 0 1 0 4 4 (by decide) (by decide) (by decide) (by decide) rfl rfl (fun y => cb_apply 0 (by decide) arg4 f4 _ y) ?_
    refine tabv_cons (sb := by decide) (sh := by decide) (sj := by decide) _ 0 0 0 3 3 3 (by decide) (by decide) (by decide) (by decide) rfl rfl (fun y => cb_apply 0 (by decide) arg4 f4 _ y) ?_
    refine tabv_cons (sb := by decide) (sh := by decide) (sj := by decide) _ 0 0 0 2 2 2 (by decide) (by decide) (by decide) (by decide) rfl rfl (fun y => cb_apply 0 (by decide) arg4 f4 _ y) ?_
    refine tabv_cons (sb := by decide) (sh := by decide) (sj := by decide) _ 0 0 0 1 1 1 (by decide) (by decide) (by decide) (by decide) rfl rfl (fun y => cb_apply 0 (by decide) arg4 f4 _ y) ?_
    refine tabv_cons (sb := by decide) (sh := by decide) (sj := by decide) _ 0 0 0 0 0 0 (by decide) (by decide) (by decide) (by decide) rfl rfl (fun y => cb_apply 0 (by decide) arg4 f4 _ y) ?_
    exact Built.nil _ _
  have hS : Built (F := F) (e := .bf16) (Gs (scOf (arg5.view.read (Elt F) f5))) keyS (body_first.sl.H10_4 c arg5 f5) 4 := by
    refine scl_cons _ 3 (by decide) (whole5 arg5 f5 _) ?_
    refine scl_cons _ 2 (by decide) (whole5 arg5 f5 _) ?_
    refine scl_cons _ 1 (by decide) (whole5 arg5 f5 _) ?_
    refine scl_cons _ 0 (by decide) (whole5 arg5 f5 _) ?_
    exact Built.nil _ _
  have hT : Tabs (cbOf (arg4.view.read (Elt F) f4)) (scOf (arg5.view.read (Elt F) f5)) (arg8.view.read (Elt F) (arg8.view.writes (Elt F) arg8.view.junk (body_first.sl.H8_16 c arg4 f4)))
      (arg9.view.read (Elt F) (arg9.view.writes (Elt F) arg9.view.junk (body_first.sl.H9_64 c arg4 f4))) (arg10.view.read (Elt F) (arg10.view.writes (Elt F) arg10.view.junk (body_first.sl.H10_4 c arg5 f5))) := by
    refine ⟨fun y => hX.read arg8 _ (fun y => ?_) y, fun y => hV.read arg9 _ (fun y => ?_) y, fun y => hS.read arg10 _ (fun y => ?_) y⟩
    · have y0 : (y 0).val < 4 := (y 0).isLt
      have y1 : (y 1).val < 2 := (y 1).isLt
      have y2 : (y 2).val < 2 := (y 2).isLt
      unfold keyX; omega
    · have y0 : (y 0).val < 4 := (y 0).isLt
      have y1 : (y 1).val < 2 := (y 1).isLt
      have y2 : (y 2).val < 8 := (y 2).isLt
      unfold keyV; omega
    · exact (y 0).isLt
  clear hX hV hS
  have hx : arg11.view.read (Elt F) (arg11.view.writes (Elt F) arg11.view.junk (body_first.sl.H11_1 c arg1 f1)) = pairUp (arg1.view.read (Elt F) f1) := by
    refine (read11 arg11 _ _ _).trans ?_
    refine (pairUp_kept _).trans ?_
    exact congrArg pairUp (whole1 arg1 f1 _)
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8 H9 H10]
  · iexists _; iexists _; iexists _
    isplitr
    · ipureintro; exact hT
    isplitl [H8]; · iexact H8
    isplitl [H9]; · iexact H9
    iexact H10
  isplitl [H11]
  · iexists _
    isplitr
    · ipureintro; exact hx
    iexact H11
  isplitl [H12]
  · iexists _
    isplitr
    swap; · iexact H12
    ipureintro
    exact Done.all hL4
  iexists _; iexact H13

end Cert.Proof.Value

end
-- ==== Proof.Value.Blocks.lean ====
/-
  The blocks the pipeline stages, as parts of their arrays: the input, the codebook and the scales whole, a tile of
  256 columns of the indices, and eight rows of the output scales.
-/
module

public import proofs.«01_k».proof.Proof.Value.Prep
public import proofs.«01_k».proof.Proof.Value.Job
public import proofs.«01_k».proof.Proof.Gen.KernelIdeal.Frame
public import proofs.«01_k».proof.Proof.Gen.KernelIdeal.Points
public import Idealize.ShloMosaic.Lib.Pipeline.ValueKit

@[expose] public section

set_option maxRecDepth 16384

noncomputable section

namespace Cert.Proof.Value

open Cert.KernelIdeal Cert.KernelIdeal.Gen
open Idealize.ShloMosaic Idealize.ShloMosaic.TcCoe

variable {F : FTy → Type} [FloatOps F]

/-- Where the windows' blocks lie at a point. -/
theorem idx : ∀ t : Fin cfg0.N, win0_0.index t = ![0, 0] ∧ win0_1.index t = ![0, 2 * t.val - 1] ∧ win0_2.index t = ![0, min (2 * t.val) 51]
    ∧ win0_3.index t = ![0, 0, 0] ∧ win0_4.index t = ![0, 0] ∧ win0_5.index t = ![t.val - 1, 0] ∧ win0_6.index t = ![0, t.val - 1] := by decide +kernel

/-- A tile of 256 columns of the indices. -/
def idxBlk (A : Vec F S1024x13312 .i8) (b : ℕ) : Vec F S1024x256 .i8 := fun y =>
  A (ix2 (y 0) ⟨(256 * b + (y 1).val) % 13312, Nat.mod_lt _ (by decide)⟩)

/-- Eight rows of the output scales. -/
def osBlk (A : Vec F S208x128 .f32) (b : ℕ) : Vec F S8x128 .f32 := fun y =>
  A (ix2 ⟨(8 * b + (y 0).val) % 208, Nat.mod_lt _ (by decide)⟩ (y 1))

variable (m : (ℓ : Loc nD τ sig) → Buf (Elt F) ℓ) (c : Dev nD)

/-- The input as the kernel finds it. -/
def xA : Vec F S256x1024 .bf16 := V m c main_v0
/-- The indices as the kernel finds them. -/
def idxA : Vec F S1024x13312 .i8 := V m c main_arg1
/-- The codebook as the kernel finds it. -/
def cbA : Vec F S2x4x256 .i8 := V m c main_v1
/-- The blocks' scales as the kernel finds them. -/
def csA : Vec F S1x4 .bf16 := V m c main_v2
/-- The output scales as the kernel finds them. -/
def osA : Vec F S208x128 .f32 := V m c main_v3

/-- Every point's block of the input is all of it. -/
theorem iblk0 (t : Fin cfg0.N) : iblk m c 0 t = xA m c := by
  funext y
  obtain ⟨h0, h1, h2, h3, h4, h5, h6⟩ := idx t
  unfold xA
  blk_ext [iblk, h0]

/-- Every point's block of the codebook is all of it. -/
theorem iblk3 (t : Fin cfg0.N) : iblk m c 3 t = cbA m c := by
  funext y
  obtain ⟨h0, h1, h2, h3, h4, h5, h6⟩ := idx t
  unfold cbA
  blk_ext [iblk, h3]

/-- Every point's block of the blocks' scales is all of them. -/
theorem iblk4 (t : Fin cfg0.N) : iblk m c 4 t = csA m c := by
  funext y
  obtain ⟨h0, h1, h2, h3, h4, h5, h6⟩ := idx t
  unfold csA
  blk_ext [iblk, h4]

/-- A point's first block of the indices. -/
theorem iblk1 (t : Fin cfg0.N) : iblk m c 1 t = idxBlk (idxA m c) (2 * t.val - 1) := by
  funext y
  obtain ⟨h0, h1, h2, h3, h4, h5, h6⟩ := idx t
  have ht : t.val < 27 := t.isLt
  have y1 : (y 1).val < 256 := (y 1).isLt
  have e : (256 * (2 * t.val - 1) + (y 1).val) % 13312 = (2 * t.val - 1) * 256 + (y 1).val := by omega
  unfold idxBlk idxA
  simp only [e]
  blk_ext [iblk, h1]

/-- A point's second block of the indices. -/
theorem iblk2 (t : Fin cfg0.N) : iblk m c 2 t = idxBlk (idxA m c) (min (2 * t.val) 51) := by
  funext y
  obtain ⟨h0, h1, h2, h3, h4, h5, h6⟩ := idx t
  have ht : t.val < 27 := t.isLt
  have y1 : (y 1).val < 256 := (y 1).isLt
  have e : (256 * (min (2 * t.val) 51) + (y 1).val) % 13312 = (min (2 * t.val) 51) * 256 + (y 1).val := by omega
  unfold idxBlk idxA
  simp only [e]
  blk_ext [iblk, h2]

/-- A point's block of the output scales. -/
theorem iblk5 (t : Fin cfg0.N) : iblk m c 5 t = osBlk (osA m c) (t.val - 1) := by
  funext y
  obtain ⟨h0, h1, h2, h3, h4, h5, h6⟩ := idx t
  have ht : t.val < 27 := t.isLt
  have y0 : (y 0).val < 8 := (y 0).isLt
  have e : (8 * (t.val - 1) + (y 0).val) % 208 = (t.val - 1) * 8 + (y 0).val := by omega
  unfold osBlk osA
  simp only [e]
  blk_ext [iblk, h5]

end Cert.Proof.Value

end
-- ==== Proof.Value.Run.lean ====
/-
  The idealized program's run, with what the result holds: the pipeline's proof data says of every point past the
  first that the tables, the kept input and the weights looked up one point ahead are in place, and of the result
  that its block is the product the point computes.
-/
module

public import proofs.«01_k».proof.Proof.Value.Body
public import proofs.«01_k».proof.Proof.Value.Blocks
public import proofs.«01_k».proof.Proof.KernelIdeal.Run
public import Idealize.ShloMosaic.Lib.Pipeline.FrameBody

@[expose] public section

set_option maxRecDepth 16384

noncomputable section

namespace Cert.Proof.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Proof.KernelIdeal (PhiA_eq cond_cases defs₀_row)

variable {F : FTy → Type} [FloatOps F]

open Idealize.ShloMosaic.Pipeline (Dat Cfg Window BodyObligation BodyObligationLoose cellOf)

local notation "𝕄" => MT nD τ sig Unit (Elt F) ℕ (UR sig nD τ) ℕ

variable (m : (ℓ : Loc nD τ sig) → Buf (Elt F) ℓ) (ρ : Dev nD → PrngReg)

/-- The weights of a tile of the indices. -/
def wAt (c : Dev nD) (b : ℕ) : Vec F S2x512x2x256 .bf16 := wval (cbOf (cbA m c)) (scOf (csA m c)) (idxBlk (idxA m c) b)

/-- The result's block a point computes. -/
def outAt (c : Dev nD) (b : ℕ) : Vec F S256x1024 .bf16 := outBlk (pairUp (xA m c)) (wAt m c (2 * b)) (wAt m c (2 * b + 1)) (osBlk (osA m c) b)

/-- What the scratch buffers hold after point `k`. -/
def held (c : Dev nD) (k : ℕ) : sProp 𝕄 :=
  iprop(((∃ f8 : Buf (Elt F) ((Memref.whole cc0_scratch0).view.loc (c : Thread nD τ)), ∃ f9 : Buf (Elt F) ((Memref.whole cc0_scratch1).view.loc (c : Thread nD τ)), ∃ f10 : Buf (Elt F) ((Memref.whole cc0_scratch2).view.loc (c : Thread nD τ)), ⌜Tabs (cbOf (cbA m c)) (scOf (csA m c)) ((Memref.whole cc0_scratch0).view.read (Elt F) f8) ((Memref.whole cc0_scratch1).view.read (Elt F) f9) ((Memref.whole cc0_scratch2).view.read (Elt F) f10)⌝ ∗ ((Memref.whole cc0_scratch0).view.loc (c : Thread nD τ) ↦[(Memref.whole cc0_scratch0).view.set]{fullShare} f8) ∗ ((Memref.whole cc0_scratch1).view.loc (c : Thread nD τ) ↦[(Memref.whole cc0_scratch1).view.set]{fullShare} f9) ∗ ((Memref.whole cc0_scratch2).view.loc (c : Thread nD τ) ↦[(Memref.whole cc0_scratch2).view.set]{fullShare} f10))
    ∗ (∃ f11 : Buf (Elt F) ((Memref.whole cc0_scratch3).view.loc (c : Thread nD τ)), ⌜((Memref.whole cc0_scratch3).view.read (Elt F) f11) = pairUp (xA m c)⌝ ∗ ((Memref.whole cc0_scratch3).view.loc (c : Thread nD τ) ↦[(Memref.whole cc0_scratch3).view.set]{fullShare} f11))
    ∗ (∃ f12 : Buf (Elt F) ((Memref.whole cc0_scratch4).view.loc (c : Thread nD τ)), ⌜((Memref.whole cc0_scratch4).view.read (Elt F) f12) = wAt m c (min (2 * k) 51)⌝ ∗ ((Memref.whole cc0_scratch4).view.loc (c : Thread nD τ) ↦[(Memref.whole cc0_scratch4).view.set]{fullShare} f12))
    ∗ (∃ g : Buf (Elt F) ((Memref.whole cc0_scratch5).view.loc (c : Thread nD τ)), ((Memref.whole cc0_scratch5).view.loc (c : Thread nD τ) ↦[(Memref.whole cc0_scratch5).view.set]{fullShare} g))) ∗ ∃ r, prngReg c r)

/-- The pipeline's proof data on core `c`. -/
def dat (c : Dev nD) : Dat τ (Elt F) Unit ℕ (UR sig nD τ) ℕ cfg0 c where
  A := fun w => V m c (Pipeline.arrRef spec0 w)
  after := fun w => match w with
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun t => outAt m c (t.val - 1)
  Φ := fun t => if t.val = 0 then Pipeline.ΦA spec0 c else held m c (t.val - 1)
  q := Pipeline.shareOf spec0
  owed := fun _ => 0

/-- The one pipeline's proof data. -/
def dats : (p : Fin 1) → (c : Dev nD) → Dat τ (Elt F) Unit ℕ (UR sig nD τ) ℕ (cfgs p) c :=
  fun p => match p with | 0 => dat m

/-- The proof data's arrays are the ones the kernel finds. -/
theorem hA (c : Dev nD) (w : Fin cfg0.W) : (dats m 0 c).A w = V m c (Pipeline.arrRef spec0 w) := rfl

/-- Window 0's staging buffer holds its block when the body starts. -/
theorem before_0 (c : Dev nD) (t : Fin cfg0.N) (d) : (dats m 0 c).before 0 t d = iblk m c 0 t :=
  before0_0_of m (dats m 0 c) rfl (fun _ => rfl) t d

/-- Window 1's staging buffer holds its block when the body starts. -/
theorem before_1 (c : Dev nD) (t : Fin cfg0.N) (d) : (dats m 0 c).before 1 t d = iblk m c 1 t :=
  before0_1_of m (dats m 0 c) rfl (fun _ => rfl) t d

/-- Window 2's staging buffer holds its block when the body starts. -/
theorem before_2 (c : Dev nD) (t : Fin cfg0.N) (d) : (dats m 0 c).before 2 t d = iblk m c 2 t :=
  before0_2_of m (dats m 0 c) rfl (fun _ => rfl) t d

/-- Window 3's staging buffer holds its block when the body starts. -/
theorem before_3 (c : Dev nD) (t : Fin cfg0.N) (d) : (dats m 0 c).before 3 t d = iblk m c 3 t :=
  before0_3_of m (dats m 0 c) rfl (fun _ => rfl) t d

/-- Window 4's staging buffer holds its block when the body starts. -/
theorem before_4 (c : Dev nD) (t : Fin cfg0.N) (d) : (dats m 0 c).before 4 t d = iblk m c 4 t :=
  before0_4_of m (dats m 0 c) rfl (fun _ => rfl) t d

/-- Window 5's staging buffer holds its block when the body starts. -/
theorem before_5 (c : Dev nD) (t : Fin cfg0.N) (d) : (dats m 0 c).before 5 t d = iblk m c 5 t :=
  before0_5_of m (dats m 0 c) rfl (fun _ => rfl) t d

/-- The scratch buffers' holdings before a point: at the first, any contents; -/
theorem Phi_first (c : Dev nD) (t : Fin cfg0.N) (h : t.val = 0) : (dats m 0 c).Φ t.castSucc = (Pipeline.ΦA spec0 c : sProp 𝕄) := if_pos h
/-- past it, what the point before left; -/
theorem Phi_later (c : Dev nD) (t : Fin cfg0.N) (h : t.val ≠ 0) : (dats m 0 c).Φ t.castSucc = held m c (t.val - 1) := if_neg h
/-- and after a point, what it left. -/
theorem Phi_succ (c : Dev nD) (t : Fin cfg0.N) : (dats m 0 c).Φ t.succ = held m c t.val := by
  have h : ¬ t.succ.val = 0 := Nat.succ_ne_zero t.val
  show (if t.succ.val = 0 then Pipeline.ΦA spec0 c else held m c (t.succ.val - 1)) = held m c t.val
  rw [if_neg h, show t.succ.val - 1 = t.val from Nat.succ_sub_one t.val]

/-- The first point is the one the conditions say is first. -/
theorem first_iff : ∀ t : Fin cfg0.N, k0_cond1 (grid0.coords t) = 1#1 → t.val = 0 := by decide +kernel
/-- The others are past it. -/
theorem later_iff : ∀ t : Fin cfg0.N, k0_cond3 (grid0.coords t) = 1#1 → 1 ≤ t.val := by decide +kernel
/-- The result's window is idle at the first point, -/
theorem idle_first : ∀ t : Fin cfg0.N, k0_cond1 (grid0.coords t) = 1#1 → cfg0.idle 6 (cfg0.grid.coords t) = true := by decide +kernel
/-- which does not write its block back, -/
theorem flush_first : ∀ t : Fin cfg0.N, k0_cond1 (grid0.coords t) = 1#1 → (cfg0.win 6).flush t = false := by decide +kernel
/-- and at no other. -/
theorem idle_later : ∀ t : Fin cfg0.N, k0_cond3 (grid0.coords t) = 1#1 → cfg0.idle 6 (cfg0.grid.coords t) = false := by decide +kernel

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ (match cfg0.idle 6 (cfg0.grid.coords t) with
      | true =>
        match (cfg0.win 6).flush t with
        | false => iprop(∃ d, owns (c : Thread nD τ) (st0_6 t) fullShare ((dats m 0 c).before 6 t d))
        | true =>
          match cfg0.loose 6 with
          | true => iprop(∃ d, owns (c : Thread nD τ) (st0_6 t) fullShare ((cfg0.win 6).fill (cfg0.grid.coords t) d ((cfg0.win 6).cut (cfg0.grid.coords t) ((dats m 0 c).after 6 t))))
          | false => owns (c : Thread nD τ) (st0_6 t) fullShare ((dats m 0 c).after 6 t)
      | false =>
        match cfg0.loose 6 with
        | true => iprop(∃ d, owns (c : Thread nD τ) (st0_6 t) fullShare ((cfg0.win 6).fill (cfg0.grid.coords t) d ((cfg0.win 6).cut (cfg0.grid.coords t) ((dats m 0 c).after 6 t))))
        | false => owns (c : Thread nD τ) (st0_6 t) fullShare ((dats m 0 c).after 6 t)))

set_option maxHeartbeats 1000000 in
/-- The body at the first point meets its obligation. -/
theorem sound_first (c : Dev nD) (t : Fin cfg0.N) (h1 : k0_cond1 (grid0.coords t) = 1#1) (h3 : ¬ k0_cond3 (grid0.coords t) = 1#1) :
    bodyPre m c t ⊢ wp frame (wpE (defs₀ (F := F)) 𝒱₀ c none) Set.univ (bodyAt0 t) (fun _ => bodyPost m c t) := by
  unfold bodyPre bodyPost bodyAt0
  rw [idle_first t h1, flush_first t h1, Phi_first m c t (first_iff t h1), Phi_succ]
  simp only [before_0, before_1, before_2, before_3, before_4, before_5]
  rw [show (dats m 0 c).owesAt () t.succ = (dats m 0 c).owesAt () t.castSucc from rfl]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [PhiA_eq, first_iff t h1]
  unfold owns held
  iintro ⟨⟨⟨S0, S1, S2, S3, S4, S5⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  iapply (body_first c _ _ _ _ _ _ _ _ _ _ _ _ _ _ _ _ _ _ _ _ _ _ _ _ _ _ _ h1 h3 f0 f1 f2 f3 f4 f5 f6 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, ⟨%f8, %f9, %f10, %hT, S0, S1, S2⟩, ⟨%f11, %hx, S3⟩, ⟨%f12, %hw, S4⟩, S5⟩
  isplitl [S0 S1 S2 S3 S4 S5 Hr]
  · isplitr [Hr]
    swap; · iexact Hr
    isplitl [S0 S1 S2]
    · iexists f8; iexists f9; iexists f10
      isplitr
      · ipureintro; rw [← iblk3 m c t, ← iblk4 m c t, ← hf3, ← hf4]; exact hT
      isplitl [S0]; · iexact S0
      isplitl [S1]; · iexact S1
      iexact S2
    isplitl [S3]
    · iexists f11
      isplitr
      · ipureintro; rw [← iblk0 m c t, ← hf0]; exact hx
      iexact S3
    isplitl [S4]
    · iexists f12
      isplitr
      · ipureintro
        have e := iblk2 m c t
        rw [first_iff t h1] at e
        unfold wAt
        rw [← iblk3 m c t, ← iblk4 m c t, ← hf3, ← hf4, ← e, ← hf2]; exact hw
      iexact S4
    iexact S5
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists d6; iexists f6; isplitr; · ipureintro; exact hf6
  iexact H6

set_option maxHeartbeats 1000000 in
/-- The body at a later point meets its obligation. -/
theorem sound_later (c : Dev nD) (t : Fin cfg0.N) (h1 : ¬ k0_cond1 (grid0.coords t) = 1#1) (h3 : k0_cond3 (grid0.coords t) = 1#1) :
    bodyPre m c t ⊢ wp frame (wpE (defs₀ (F := F)) 𝒱₀ c none) Set.univ (bodyAt0 t) (fun _ => bodyPost m c t) := by
  have ht : t.val < 27 := t.isLt
  have h0 : 1 ≤ t.val := later_iff t h3
  unfold bodyPre bodyPost bodyAt0
  rw [idle_later t h3, show cfg0.loose 6 = false from rfl, Phi_later m c t (by omega), Phi_succ]
  simp only [before_0, before_1, before_2, before_3, before_4, before_5]
  rw [show (dats m 0 c).owesAt () t.succ = (dats m 0 c).owesAt () t.castSucc from rfl]
  rw [show (dats m 0 c).after 0 t = iblk m c 0 t from rfl]
  rw [show (dats m 0 c).after 1 t = iblk m c 1 t from rfl]
  rw [show (dats m 0 c).after 2 t = iblk m c 2 t from rfl]
  rw [show (dats m 0 c).after 3 t = iblk m c 3 t from rfl]
  rw [show (dats m 0 c).after 4 t = iblk m c 4 t from rfl]
  rw [show (dats m 0 c).after 5 t = iblk m c 5 t from rfl]
  rw [show (dats m 0 c).after 6 t = outAt m c (t.val - 1) from rfl]
  unfold owns held
  iintro ⟨⟨⟨⟨%e8, %e9, %e10, %hT, S0, S1, S2⟩, ⟨%e11, %hx, S3⟩, ⟨%e12, %hw, S4⟩, S5⟩, Hr⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  iapply (body_later c _ _ _ _ _ _ _ _ _ _ _ _ _ _ _ _ _ _ _ _ _ _ _ _ _ _ _ h1 h3 (cbOf (cbA m c)) (scOf (csA m c)) f0 f1 f2 f3 f4 f5 e8 e9 e10 e11 e12 hT _)
  isplitl [H0]; · iexact H0
  isplitl [H1]; · iexact H1
  isplitl [H2]; · iexact H2
  isplitl [H3]; · iexact H3
  isplitl [H4]; · iexact H4
  isplitl [H5]; · iexact H5
  isplitl [H6]; · iexists f6; iexact H6
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, ⟨%g6, %hg, H6⟩, S0, S1, S2, S3, ⟨%f12, %hw', S4⟩, S5⟩
  isplitl [S0 S1 S2 S3 S4 S5 Hr]
  · isplitr [Hr]
    swap; · iexact Hr
    isplitl [S0 S1 S2]
    · iexists e8; iexists e9; iexists e10
      isplitr
      · ipureintro; exact hT
      isplitl [S0]; · iexact S0
      isplitl [S1]; · iexact S1
      iexact S2
    isplitl [S3]
    · iexists e11
      isplitr
      · ipureintro; exact hx
      iexact S3
    isplitl [S4]
    · iexists f12
      isplitr
      · ipureintro
        unfold wAt
        rw [← iblk2 m c t, ← hf2]; exact hw'
      iexact S4
    iexact S5
  isplitl [Ho]; · iexact Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  iexists g6; isplitr
  · ipureintro
    refine hg.trans ?_
    have e1 := iblk1 m c t
    have k1 : 2 * t.val - 1 = 2 * (t.val - 1) + 1 := by omega
    have k2 : min (2 * (t.val - 1)) 51 = 2 * (t.val - 1) := by omega
    rw [hx, hw, hf1, e1, hf5, iblk5 m c t, k1, k2]
    rfl
  iexact H6

/-- The body at any point meets its obligation. -/
theorem sound_body (c : Dev nD) (t : Fin cfg0.N) :
    bodyPre m c t ⊢ wp frame (wpE (defs₀ (F := F)) 𝒱₀ c none) Set.univ (bodyAt0 t) (fun _ => bodyPost m c t) := by
  rcases cond_cases t with ⟨h1, h3⟩ | ⟨h1, h3⟩
  · exact sound_first m c t h1 h3
  · exact sound_later m c t h1 h3

/-- The library's body obligation, at every point. -/
theorem body_obligation (c : Dev nD) : BodyObligationLoose (dats (F := F) m 0 c) (defs₀ (F := F)) 𝒱₀ () Set.univ := fun t => by
  rw [bigSep_W0, bigSep_W0, defs₀_row]
  exact triple_restated (sound_body m c t) rfl .rfl fun _ => .rfl

/-- What the scratch buffers hold at the end, said of no contents. -/
theorem held_any (c : Dev nD) (k : ℕ) : held m c k ⊢ (Pipeline.ΦA spec0 c : sProp 𝕄) := by
  rw [PhiA_eq]
  unfold held
  iintro ⟨⟨⟨%e8, %e9, %e10, %hT, S0, S1, S2⟩, ⟨%e11, %hx, S3⟩, ⟨%e12, %hw, S4⟩, S5⟩, Hr⟩
  isplitr [Hr]
  swap; · iexact Hr
  isplitl [S0]; · iexists e8; iexact S0
  isplitl [S1]; · iexists e9; iexact S1
  isplitl [S2]; · iexists e10; iexact S2
  isplitl [S3]; · iexists e11; iexact S3
  isplitl [S4]; · iexists e12; iexact S4
  iexact S5

set_option backward.isDefEq.respectTransparency.types false in
set_option maxHeartbeats 800000 in
/-- The run: every weakly fair execution of the program terminates, the arrays as the proof data says and every
    semaphore counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := body_obligation m) (hq := fun _ _ _ => rfl) (howed := fun _ _ => rfl) (V := V m)
    (hmain := hmain m 𝒱₀) (hA := hA m) (hin := fun _ => .rfl) (hout := fun c => held_any m c _)

end Cert.Proof.Value

end
-- ==== Proof.Value.Result.lean ====
/-
  What the kernel leaves in its result array over the extended reals: the layer's mathematics, entry by entry.
-/
module

public import proofs.«01_k».proof.Proof.Value.Spec
public import proofs.«01_k».proof.Proof.Value.Run
public import Idealize.ShloMosaic.Lib.StableHlo.RunRead
public import Idealize.ShloMosaic.Lib.Claim

@[expose] public section

set_option maxRecDepth 16384

noncomputable section

namespace Cert.Proof.Value

open Cert.KernelIdeal Cert.KernelIdeal.Gen
open Idealize.ShloMosaic Idealize.ShloMosaic.TcCoe Idealize.ShloMosaic.Tactic

section
variable {F : FTy → Type} [FloatOps F]
variable (m : (ℓ : Loc nD τ sig) → Buf (Elt F) ℓ) (c : Dev nD)

/-- The result array: the blocks of 1024 columns side by side. -/
theorem arr : (dats m 0 c).arrAt 6 cfg0.N
    = ((fun i => outAt m c ((i 1).val / 1024) (ix2 (i 0) ⟨(i 1).val % 1024, Nat.mod_lt _ (by decide)⟩)) : Vec F S256x26624 .bf16) := by
  refine (dats m 0 c).arrAt_eq_of_covers 6 _ (by decide +kernel) fun t hf y => ?_
  obtain ⟨h0, h1, h2, h3, h4, h5, h6⟩ := idx t
  blk_simp [h6]
  have y1 : (y 1).val < 1024 := (y 1).isLt
  have e : ((t.val - 1) * 1024 + (y 1).val) / 1024 = t.val - 1 := by omega
  have e' : ((t.val - 1) * 1024 + (y 1).val) % 1024 = (y 1).val := by omega
  rw [show (dats m 0 c).after 6 t = outAt m c (t.val - 1) from rfl, e]
  refine congrArg _ ?_
  funext a
  refine Fin.ext ?_
  match a with
  | ⟨0, _⟩ =>
    blk_simp [h6]
    rfl
  | ⟨1, _⟩ => exact e'.symm

/-- The input's rows, from the argument. -/
theorem xA_apply (r : Fin 256) (k : Fin 1024) :
    xA m c (ix2 r k) = (m ((c.tc : Thread nD τ).loc main_arg0) : Vec F S1x256x1024 .bf16) (ix3 (0 : Fin 1) r k) := by
  unfold xA
  entry_read
  pointwise

/-- The indices are the argument as it is. -/
theorem idxA_eq : idxA m c = (m ((c.tc : Thread nD τ).loc main_arg1) : Vec F S1024x13312 .i8) := V_main_arg1 m c

/-- The codebook's pair positions, from the argument. -/
theorem cbA_apply (p : Fin 2) (b : Fin 4) (e : Fin 256) :
    cbA m c (ix3 p b e) = (m ((c.tc : Thread nD τ).loc main_arg2) : Vec F S4x256x2 .i8) (ix3 b e p) := by
  unfold cbA
  entry_read
  pointwise

/-- The blocks' scales, from the argument. -/
theorem csA_apply (b : Fin 4) :
    csA m c (ix2 (0 : Fin 1) b) = (m ((c.tc : Thread nD τ).loc main_arg3) : Vec F S4 .bf16) (ix1 b) := by
  unfold csA
  entry_read
  pointwise

/-- The output scales, from the argument. -/
theorem osA_apply (a : Fin 208) (b : Fin 128) :
    osA m c (ix2 a b) = (m ((c.tc : Thread nD τ).loc main_arg4) : Vec F S26624 .f32) (ix1 ⟨128 * a.val + b.val, by omega⟩) := by
  unfold osA
  entry_read
  pointwise
  exact congrArg _ (congrArg ix1 (Fin.ext (by show a.val * 128 + b.val = 128 * a.val + b.val; omega)))

end

/-- An entry of the products, as a sum. -/
theorem prod_apply (xw : Vec Ideal S128x2x1024 .bf16) (w : Vec Ideal S2x512x2x256 .bf16) (p : Fin 2) (r q : Fin 256) :
    prod xw w p (ix2 r q)
      = ∑ k : Fin 1024, (xw (ix3 ⟨r.val / 2, by omega⟩ ⟨r.val % 2, by omega⟩ k) : EReal)
          * w (ix4 p ⟨k.val / 2, by omega⟩ ⟨k.val % 2, by omega⟩ q) := by
  unfold prod
  pointwise
  rfl

variable (m : (ℓ : Loc nD τ sig) → Buf (Elt Ideal) ℓ) (c : Dev nD)

/-- A looked-up weight, from the arguments. -/
theorem wAt_apply (b : ℕ) (p : Fin 2) (k : Fin 1024) (q : Fin 256) (n : Fin 13312) (hn : 256 * b + q.val = n.val) :
    (wAt m c b (ix4 p ⟨k.val / 2, by omega⟩ ⟨k.val % 2, by omega⟩ q) : EReal)
      = (FloatOps.sitofp (F := Ideal) .bf16 ((m ((c.tc : Thread nD τ).loc main_arg2) : Vec Ideal S4x256x2 .i8)
          (ix3 ⟨k.val / 256, by omega⟩
            ⟨((m ((c.tc : Thread nD τ).loc main_arg1) : Vec Ideal S1024x13312 .i8) (ix2 k n) : BitVec 8).toNat, BitVec.isLt _⟩ p)) : EReal)
        * (m ((c.tc : Thread nD τ).loc main_arg3) : Vec Ideal S4 .bf16) (ix1 ⟨k.val / 256, by omega⟩) := by
  unfold wAt wval
  have hi : idxBlk (idxA m c) b (ix2 ⟨2 * (k.val / 2) + k.val % 2, by omega⟩ q)
      = (m ((c.tc : Thread nD τ).loc main_arg1) : Vec Ideal S1024x13312 .i8) (ix2 k n) := by
    rw [idxA_eq]
    unfold idxBlk
    refine congrArg _ ?_
    congr 1
    · exact Fin.ext (by show 2 * (k.val / 2) + k.val % 2 = k.val; omega)
    · exact Fin.ext (by show (256 * b + q.val) % 13312 = n.val; have := n.isLt; omega)
  show (FloatOps.sitofp (F := Ideal) .bf16 (cbOf (cbA m c) p.val (k.val / 2 / 128) (idxBlk (idxA m c) b (ix2 ⟨2 * (k.val / 2) + k.val % 2, by omega⟩ q)).toNat) : EReal)
    * scOf (csA m c) (k.val / 2 / 128) = _
  rw [hi]
  refine congrArg₂ (· * ·) (congrArg _ ?_) ?_
  · unfold cbOf
    refine (cbA_apply m c _ _ _).trans (congrArg _ ?_)
    congr 1 <;> refine Fin.ext ?_
    · show k.val / 2 / 128 % 4 = k.val / 256
      omega
    · exact Nat.mod_eq_of_lt (BitVec.isLt _)
    · exact Nat.mod_eq_of_lt p.isLt
  · unfold scOf
    refine (csA_apply m c _).trans (congrArg _ (congrArg ix1 (Fin.ext ?_)))
    show k.val / 2 / 128 % 4 = k.val / 256
    omega

/-- The kernel computes the layer. -/
theorem arr_spec : (dats m 0 c).arrAt 6 cfg0.N
      = specArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [arr]
  funext i
  obtain ⟨r, n, rfl⟩ : ∃ (r : Fin 256) (n : Fin 26624), i = ix2 r n := ⟨i 0, i 1, eq_ix2 i⟩
  have hn := n.isLt
  have hw : (if n.val % 1024 < 512 then wAt m c (2 * (n.val / 1024)) else wAt m c (2 * (n.val / 1024) + 1)) = wAt m c (n.val / 512) := by
    split
    · exact congrArg _ (by omega)
    · exact congrArg _ (by omega)
  show (prod (pairUp (xA m c)) (if n.val % 1024 < 512 then wAt m c (2 * (n.val / 1024)) else wAt m c (2 * (n.val / 1024) + 1))
      ⟨n.val % 1024 % 2, by omega⟩ (ix2 r ⟨n.val % 1024 % 512 / 2, by omega⟩) : EReal)
    * osBlk (osA m c) (n.val / 1024) (ix2 ⟨n.val % 1024 / 128, by omega⟩ ⟨n.val % 1024 % 128, by omega⟩) = _
  rw [hw, show (⟨n.val % 1024 % 2, by omega⟩ : Fin 2) = ⟨n.val % 2, by omega⟩ from Fin.ext (by dsimp only; omega), prod_apply]
  unfold specArr spec
  refine congrArg₂ (· * ·) (Finset.sum_congr rfl fun k _ => congrArg₂ (· * ·) ?_ ?_) ?_
  · unfold pairUp
    refine (xA_apply m c _ _).trans (congrArg _ ?_)
    congr 1
    exact Fin.ext (by show 2 * (r.val / 2) + r.val % 2 = r.val; omega)
  · exact wAt_apply m c _ _ k _ ⟨n.val / 2, by omega⟩ (by show 256 * (n.val / 512) + n.val % 1024 % 512 / 2 = n.val / 2; omega)
  · refine (osA_apply m c _ _).trans (congrArg _ (congrArg ix1 (Fin.ext ?_)))
    show 128 * ((8 * (n.val / 1024) + n.val % 1024 / 128) % 208) + n.val % 1024 % 128 = n.val
    omega

end Cert.Proof.Value

end
-- ==== Proof.Value.Reference.lean ====
/-
  What the reference leaves in its result: the region's dequantised table, the lines after it read off one by one, and
  the layer's mathematics entry by entry over the extended reals.
-/
module

public import proofs.«01_k».proof.Proof.Gen.ReferenceIdeal.Frame
public import Idealize.ShloMosaic.Lib.Pipeline.ValueKit
public import Idealize.ShloMosaic.Lib.StableHlo.RunRead
public import proofs.«01_k».proof.Proof.Value.Spec
public import Idealize.ShloMosaic.Lib.Claim

@[expose] public section

set_option maxRecDepth 16384

noncomputable section

namespace Cert.Proof.Value.Ref

open Cert.ReferenceIdeal Cert.ReferenceIdeal.Gen
open Idealize.ShloMosaic Idealize.ShloMosaic.TcCoe Idealize.ShloMosaic.Tactic

variable {F : FTy → Type} [FloatOps F]

/-- The row number of each row of the table, divided by 256 as the reference divides: rounding towards minus infinity. -/
def fdiv : IVec S1024 32 :=
  let it : IVec S1024 32 := iotaInDim S1024 32 0
  let c : IVec S_ 32 := constantI S_ 32 256#32
  select
    (andi (cmpi .ne (signi it) (broadcastInDim S1024 ![] bcast_S_S1024 (signi c)))
      (cmpi .ne (Host.remsi it (broadcastInDim S1024 ![] bcast_S_S1024 c))
        (broadcastInDim S1024 ![] bcast_S_S1024 (constantI S_ 32 0#32))))
    (subi (Host.divsi it (broadcastInDim S1024 ![] bcast_S_S1024 c))
      (broadcastInDim S1024 ![] bcast_S_S1024 (constantI S_ 32 1#32)))
    (Host.divsi it (broadcastInDim S1024 ![] bcast_S_S1024 c))

/-- The row of the dequantised table each index names: 256 times the row's codebook, plus the index. -/
def rows (idx : IVec S1024x13312 8) : IVec S1024x13312 32 :=
  addi
    (broadcastInDim S1024x13312 ![0, 1] bcast_S1024x1_S1024x13312_0_1
      (muli (broadcastInDim S1024x1 ![0] bcast_S1024_S1024x1_0 fdiv)
        (broadcastInDim S1024x1 ![] bcast_S_S1024x1 (constantI S_ 32 256#32))))
    (extui 32 idx natLt_8_32)

/-- The weight matrix: for each index, the two entries of the table's row it names, side by side. -/
def weights (d : FVec F S4x512 .bf16) (idx : IVec S1024x13312 8) : FVec F S1024x26624 .bf16 :=
  shapeCast S1024x26624
    (Host.gather gather_S1024x2_S1024x13312x1_S1024x13312x2_2_0_n_n_0_2_12
      (shapeCast S1024x2 d shapeCasts_S4x512_S1024x2)
      (broadcastInDim S1024x13312x1 ![0, 1] bcast_S1024x13312_S1024x13312x1_0_1 (rows idx)))
    shapeCasts_S1024x13312x2_S1024x26624

/-- The reference's result, from the dequantised table and the arguments. -/
def result (d : FVec F S4x512 .bf16) (x : FVec F S1x256x1024 .bf16) (idx : IVec S1024x13312 8)
    (os : FVec F S26624 .f32) : FVec F S256x26624 .bf16 :=
  shapeCast S256x26624
    (truncf .bf16
      (mulf (Host.dotGeneral dot_S1x256x1024_S1024x26624_S1x256x26624_2_0_01_1_n_n none x (weights d idx))
        (broadcastInDim S1x256x26624 ![0, 1, 2] bcast_S1x1x26624_S1x256x26624_0_1_2
          (broadcastInDim S1x1x26624 ![2] bcast_S26624_S1x1x26624_2 os)))
      bitsLt_bf16_f32)
    shapeCasts_S1x256x26624_S256x26624

set_option maxHeartbeats 400000 in
/-- What the lines after the region leave in the result buffer. -/
theorem tail_eq (W : Valuation τ sig (Elt F)) :
    StableHlo.after (List.flatten [hostOps1, hostOps1_1, hostOps1_2, hostOps1_3, hostOps1_4]) W (Proc.devRef .tc main_v19)
      = result (W main_v2) (W main_arg0) (W main_arg1) (W main_arg4) := by
  simp only [hostOps1, hostOps1_1, hostOps1_2, hostOps1_3, hostOps1_4, List.flatten_cons, List.flatten_nil, List.append_nil, List.cons_append, List.nil_append]
  after_reads_simp
  rfl

/-- The division at each row. -/
theorem fdiv_apply : ∀ k : Fin 1024, fdiv (ix1 k) = BitVec.ofNat 32 (k.val / 256) := by
  decide +kernel

/-- The row named at each index, as a word. -/
theorem rows_apply (idx : IVec S1024x13312 8) (k : Fin 1024) (n : Fin 13312) :
    rows idx (ix2 k n) = BitVec.ofNat 32 (256 * (k.val / 256) + (idx (ix2 k n)).toNat) := by
  unfold rows
  pointwise
  rw [show (ix1 ⟨k.val, by omega⟩ : S1024.Idx) = ix1 k from rfl, fdiv_apply]
  apply BitVec.eq_of_toNat_eq
  have h := k.isLt
  have h' := (idx (ix2 k n)).isLt
  simp only [IntOp.addi, IntOp.muli, BitVec.toNat_add, BitVec.toNat_mul, BitVec.toNat_ofNat, BitVec.toNat_setWidth]
  omega

/-- A gather of whole rows whose row number is in range reads that row. -/
theorem gather_apply {α : Type} (x : S1024x2.Idx → α) (idx : IVec S1024x13312x1 32) (k : Fin 1024) (n : Fin 13312) (p : Fin 2)
    (r : ℕ) (hr : r < 1024) (h : idx (ix3 k n (0 : Fin 1)) = BitVec.ofNat 32 r) :
    Host.gather gather_S1024x2_S1024x13312x1_S1024x13312x2_2_0_n_n_0_2_12 x idx (ix3 k n p) = x (ix2 ⟨r, hr⟩ p) := by
  unfold Host.gather
  refine congrArg x (funext fun a => Fin.ext ?_)
  set d := gather_S1024x2_S1024x13312x1_S1024x13312x2_2_0_n_n_0_2_12 with hd
  show d.start (ix3 k n p) idx a + d.batchCoord (ix3 k n p) a + d.offCoord (ix3 k n p) a = _
  have hb : ∀ a, a ∉ d.operandBatchingDims := fun _ => List.not_mem_nil
  rw [GatherDims.batchCoord_eq_zero _ _ _ (hb a)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ d.startIndexMap from List.mem_singleton.mpr rfl)]
    have hsi : d.siIdx (ix3 k n p) ⟨List.idxOf (0 : Fin 2) d.startIndexMap,
        List.idxOf_lt_length_iff.2 (List.mem_singleton.mpr rfl)⟩ = ix3 k n (0 : Fin 1) := by
      funext b; refine Fin.ext ?_
      match b with
      | ⟨0, _⟩ => rfl
      | ⟨1, _⟩ => rfl
      | ⟨2, _⟩ => rfl
    have hi : (BitVec.ofNat 32 r).toInt.toNat = r := by
      rw [BitVec.toInt_eq_toNat_cond, BitVec.toNat_ofNat]; split <;> omega
    rw [hsi, h, hi]
    show min r (1024 - 1) + 0 + 0 = r
    omega
  · unfold GatherDims.start
    rw [dif_neg (show (1 : Fin 2) ∉ d.startIndexMap from by decide)]
    simp only [Nat.zero_add]
    unfold GatherDims.offCoord
    rw [dif_pos (show (1 : Fin 2) ∈ d.sKept from by decide)]
    rfl

/-- An entry of the weight matrix: the dequantised table at the row's codebook, the index and the column's parity. -/
theorem weights_apply (d : FVec F S4x512 .bf16) (idx : IVec S1024x13312 8) (k : Fin 1024) (n : Fin 26624) :
    weights d idx (ix2 k n)
      = d (ix2 ⟨k.val / 256, by omega⟩
          ⟨2 * (idx (ix2 k ⟨n.val / 2, by omega⟩)).toNat + n.val % 2, by
            have := (idx (ix2 k ⟨n.val / 2, by omega⟩)).isLt; omega⟩) := by
  unfold weights
  pointwise
  have hk : 256 * (k.val / 256) + (idx (ix2 k ⟨n.val / 2, by omega⟩)).toNat < 1024 := by
    have := (idx (ix2 k ⟨n.val / 2, by omega⟩)).isLt
    have := k.isLt
    omega
  rw [gather_apply _ _ k ⟨n.val / 2, by omega⟩ ⟨n.val % 2, by omega⟩ _ hk (by
    rw [← rows_apply]; pointwise)]
  pointwise
  refine congrArg d ?_
  congr 1 <;> exact Fin.ext (by dsimp only; have := (idx (ix2 k ⟨n.val / 2, by omega⟩)).isLt; omega)

/-- An entry of the reference's result, as a sum over the inputs. -/
theorem result_apply (d : FVec Ideal S4x512 .bf16) (x : FVec Ideal S1x256x1024 .bf16) (idx : IVec S1024x13312 8)
    (os : FVec Ideal S26624 .f32) (r : Fin 256) (n : Fin 26624) :
    result d x idx os (ix2 r n)
      = (∑ k : Fin 1024, (x (ix3 (0 : Fin 1) r k) : EReal) * weights d idx (ix2 k n)) * os (ix1 n) := by
  unfold result
  pointwise

section
variable (m : (ℓ : Loc nD τ sig) → Buf (Elt F) ℓ) (c : Dev nD)

/-- The region's block of the codebook is all of it. -/
theorem blk0 (t : Fin cfg0.N) : iblk m c 0 t = V m c main_v0 := by
  funext y
  have h : win0_0.index t = ![0, 0] := by revert t; decide +kernel
  blk_ext [iblk, h]

/-- The region's block of the scales is all of them. -/
theorem blk1 (t : Fin cfg0.N) : iblk m c 1 t = V m c main_v1 := by
  funext y
  have h : win0_1.index t = ![0, 0] := by revert t; decide +kernel
  blk_ext [iblk, h]

/-- The dequantised table in the region's output array. -/
theorem table_arr : (dats m 0 c).arrAt 2 cfg0.N = k0_pay1 (V m c main_v0) (V m c main_v1) := by
  refine (dats m 0 c).arrAt_eq_of_covers 2 _ (by decide +kernel) fun t hf y => ?_
  blk_simp
  rw [after0_2]
  frame_out
  rw [blk0, blk1]
  refine congrArg _ ?_
  change y = (win0_2.blk t).view.emb y
  have h : win0_2.index t = ![0, 0] := by revert t; decide +kernel
  blk_ext [h]

/-- The codebook as the region finds it. -/
theorem entry0 : (V m c main_v0 : Vec F S4x512 .i8) = shapeCast S4x512 (m ((c.tc : Thread nD τ).loc main_arg2) : Vec F S4x256x2 .i8) shapeCasts_S4x256x2_S4x512 := by
  entry_read
  rfl

/-- The blocks' scales as the region finds them. -/
theorem entry1 : (V m c main_v1 : Vec F S4x1 .bf16) = shapeCast S4x1 (m ((c.tc : Thread nD τ).loc main_arg3) : Vec F S4 .bf16) shapeCasts_S4_S4x1 := by
  entry_read
  rfl

/-- What the whole reference leaves in the result buffer. -/
theorem value :
    Pipeline.afterTail₀ cfgs (dats m) 0 (V0 m) [hostOps1, hostOps1_1, hostOps1_2, hostOps1_3, hostOps1_4] c main_v19
      = result (k0_pay1 (V m c main_v0) (V m c main_v1)) (m ((c.tc : Thread nD τ).loc main_arg0))
          (m ((c.tc : Thread nD τ).loc main_arg1)) (m ((c.tc : Thread nD τ).loc main_arg4)) := by
  unfold Pipeline.afterTail₀
  refine (tail_eq _).trans ?_
  rw [← table_arr]
  congr 1
  exact Pipeline.withArrays_arr spec0 (by decide) c (V0 m c) _ 2

end

/-- An entry of the dequantised table. -/
theorem table_apply (cb : IVec S4x256x2 8) (cs : FVec Ideal S4 .bf16) (b : Fin 4) (e : Fin 512) :
    k0_pay1 (F := Ideal) (shapeCast S4x512 cb shapeCasts_S4x256x2_S4x512) (shapeCast S4x1 cs shapeCasts_S4_S4x1) (ix2 b e)
      = (FloatOps.sitofp (F := Ideal) .bf16 (cb (ix3 b ⟨e.val / 2, by omega⟩ ⟨e.val % 2, by omega⟩)) : EReal) * cs (ix1 b) := by
  unfold k0_pay1
  pointwise

/-- The reference computes the layer. -/
theorem value_spec (m : (ℓ : Loc nD τ sig) → Buf (Elt Ideal) ℓ) (c : Dev nD) :
    Pipeline.afterTail₀ cfgs (dats m) 0 (V0 m) [hostOps1, hostOps1_1, hostOps1_2, hostOps1_3, hostOps1_4] c main_v19
      = specArr (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  rw [value, entry0, entry1]
  funext i
  obtain ⟨r, n, rfl⟩ : ∃ (r : Fin 256) (n : Fin 26624), i = ix2 r n := ⟨i 0, i 1, eq_ix2 i⟩
  refine (result_apply _ _ _ _ r n).trans ?_
  unfold specArr spec
  refine congrArg₂ (· * ·) (Finset.sum_congr rfl fun k _ => ?_) rfl
  rw [weights_apply, table_apply]
  have hn : 2 * ((m ((c.tc : Thread nD τ).loc main_arg1) : Vec Ideal S1024x13312 .i8) (ix2 k ⟨n.val / 2, by omega⟩) : BitVec 8).toNat + n.val % 2 < 512 := by
    have := ((m ((c.tc : Thread nD τ).loc main_arg1) : Vec Ideal S1024x13312 .i8) (ix2 k ⟨n.val / 2, by omega⟩) : BitVec 8).isLt
    omega
  refine congrArg₂ (· * ·) rfl (congrArg₂ (· * ·) (congrArg _ (congrArg _ ?_)) rfl)
  congr 1 <;> refine Fin.ext ?_
  · show (2 * _ + n.val % 2) / 2 = BitVec.toNat ((m ((c.tc : Thread nD τ).loc main_arg1) : Vec Ideal S1024x13312 .i8) (ix2 k ⟨n.val / 2, by omega⟩))
    omega
  · show (2 * _ + n.val % 2) % 2 = n.val % 2
    omega

end Cert.Proof.Value.Ref

end
-- ==== Proof.Algebraic.lean ====
/-
  The value claim: over the extended reals the kernel and the reference leave equal results, because each leaves the
  layer's mathematics entry by entry.
-/
module

public import proofs.«01_k».proof.Defs
public import proofs.«01_k».proof.Proof.Value.Result
public import proofs.«01_k».proof.Proof.Value.Reference

@[expose] public section

noncomputable section

namespace Cert.Proof

open Idealize.ShloMosaic Idealize.ShloMosaic.TcCoe

/-- The kernel's run: the result is the layer of the arguments, and the arguments end unchanged. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v4)
            = Value.specArr (m ((c.tc : Thread Cert.KernelIdeal.nD Cert.KernelIdeal.τ).loc Cert.KernelIdeal.main_arg0))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
                (m ((c.tc : Thread Cert.KernelIdeal.nD Cert.KernelIdeal.τ).loc Cert.KernelIdeal.main_arg3))
                (m ((c.tc : Thread Cert.KernelIdeal.nD Cert.KernelIdeal.τ).loc Cert.KernelIdeal.main_arg4))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run Cert.KernelIdeal.defs _ _).mono (fun r h c => ⟨?_, ?_, ?_, ?_, ?_, ?_⟩) (Value.run_main m ρ)
  · exact ((h.1 c).1 6).trans (Value.arr_spec m c)
  · exact ((h.1 c).2 Cert.KernelIdeal.main_arg0 (Pipeline.mem_restRefs_of Cert.KernelIdeal.main_arg0 (by decide) (by decide))).trans (Cert.KernelIdeal.Gen.V_main_arg0 m c)
  · exact ((h.1 c).1 2).trans (((Value.dats m 0 c).arrAt_in 2 rfl _).trans ((Value.hA m c 2).trans (Cert.KernelIdeal.Gen.V_main_arg1 m c)))
  · exact ((h.1 c).2 Cert.KernelIdeal.main_arg2 (Pipeline.mem_restRefs_of Cert.KernelIdeal.main_arg2 (by decide) (by decide))).trans (Cert.KernelIdeal.Gen.V_main_arg2 m c)
  · exact ((h.1 c).2 Cert.KernelIdeal.main_arg3 (Pipeline.mem_restRefs_of Cert.KernelIdeal.main_arg3 (by decide) (by decide))).trans (Cert.KernelIdeal.Gen.V_main_arg3 m c)
  · exact ((h.1 c).2 Cert.KernelIdeal.main_arg4 (Pipeline.mem_restRefs_of Cert.KernelIdeal.main_arg4 (by decide) (by decide))).trans (Cert.KernelIdeal.Gen.V_main_arg4 m c)

/-- The reference's run: the result is the layer of the arguments, and the arguments end unchanged. -/
theorem reference_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v19)
            = Value.specArr (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) := by
  refine (θ_run Cert.ReferenceIdeal.defs _ _).mono (fun r h c => ⟨?_, ?_, ?_, ?_, ?_, ?_⟩) (Cert.ReferenceIdeal.Gen.run_main m ρ)
  · exact ((h c).2 Cert.ReferenceIdeal.main_v19 (Pipeline.mem_restRefs_of Cert.ReferenceIdeal.main_v19 (by decide) (by decide))).trans (Value.Ref.value_spec m c)
  · exact ((h c).2 Cert.ReferenceIdeal.main_arg0 (Pipeline.mem_restRefs_of Cert.ReferenceIdeal.main_arg0 (by decide) (by decide))).trans (Cert.ReferenceIdeal.Gen.W_main_arg0 m _ c)
  · exact ((h c).2 Cert.ReferenceIdeal.main_arg1 (Pipeline.mem_restRefs_of Cert.ReferenceIdeal.main_arg1 (by decide) (by decide))).trans (Cert.ReferenceIdeal.Gen.W_main_arg1 m _ c)
  · exact ((h c).2 Cert.ReferenceIdeal.main_arg2 (Pipeline.mem_restRefs_of Cert.ReferenceIdeal.main_arg2 (by decide) (by decide))).trans (Cert.ReferenceIdeal.Gen.W_main_arg2 m _ c)
  · exact ((h c).2 Cert.ReferenceIdeal.main_arg3 (Pipeline.mem_restRefs_of Cert.ReferenceIdeal.main_arg3 (by decide) (by decide))).trans (Cert.ReferenceIdeal.Gen.W_main_arg3 m _ c)
  · exact ((h c).2 Cert.ReferenceIdeal.main_arg4 (Pipeline.mem_restRefs_of Cert.ReferenceIdeal.main_arg4 (by decide) (by decide))).trans (Cert.ReferenceIdeal.Gen.W_main_arg4 m _ c)

/-- From memories that agree on the arguments the kernel and the reference end with equal results. -/
theorem algebraic : Cert.algebraic_KernelIdeal_ReferenceIdeal := by
  intro m g m' g' _ hagree
  refine ⟨fun c => _, kernel_value m g, (θ_run Cert.ReferenceIdeal.defs _ _).mono (fun r h c => ⟨?_, (h c).2⟩) (reference_value m' g')⟩
  obtain ⟨h0, h1, h2, h3, h4⟩ := hagree c
  rw [(h c).1, h0, h1, h2, h3, h4]

end Cert.Proof

end
-- ==== Proof.lean ====
/-
  The proof of `Cert.Claim`: the frames of the two kernel programs (Proof/Kernel/Run.lean, Proof/KernelIdeal/Run.lean)
  and of the reference (generated), the idealization's rewrites by their rules' statements, and the value claim (Proof/Algebraic.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Kernel.Run
public import proofs.«01_k».proof.Proof.KernelIdeal.Run
public import proofs.«01_k».proof.Proof.Algebraic
public import Idealize.ShloMosaic.Lib.Bf16PairInverse

@[expose] public section

noncomputable section

namespace Cert.Proof

open Idealize.ShloMosaic Idealize.SL.Sem

/-- The idealization's rewrites: words packed of two 16-bit floats, moved as the two floats. -/
theorem preserves : Cert.preserves_Kernel_KernelIdeal :=
  ⟨IdealRules.bf16_pair.bufferStatement _ _, IdealRules.bf16_pair.bufferStatement _ _, IdealRules.bf16_pair.statement _ _,
    IdealRules.bf16_pair.statement _ _, IdealRules.bf16_pair.statement _ _, IdealRules.bf16_pair.statement _ _,
    IdealRules.bf16_pair.statement _ _, IdealRules.bf16_pair.statement _ _⟩

/-- The certificate's claim. -/
theorem claim : Cert.Claim :=
  ⟨Cert.Kernel.Gen.facts, Cert.KernelIdeal.Gen.facts, Cert.ReferenceIdeal.Gen.facts,
    fun m ρ _ => Cert.Proof.Kernel.frame m ρ, fun m ρ _ => Cert.Proof.KernelIdeal.frame m ρ,
    fun m ρ _ => Cert.ReferenceIdeal.Gen.frame m ρ, preserves, Cert.Proof.algebraic⟩

end Cert.Proof

end
